-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_routed [hKernelIdeal : Cert.KernelIdeal.Facts] [hReferenceIdeal : Cert.ReferenceIdeal.Facts] [hOn_routed : Cert.On_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![128, 512]⟩ ⟨2, ![512, 512]⟩ (Layout.meshBlock [2, 4, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2]⟩ ⟨2, ![512, 8]⟩ (Layout.meshBlock [2, 4, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![8, 512, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![8, 1024, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v270)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 512]⟩ : Shape).Idx, (Layout.blockN ⟨2, ![128, 512]⟩ ⟨2, ![512, 512]⟩ (Layout.meshBlock [2, 4, 4] ![[1], []] c) ((Cert.On_routed.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![128, 512]⟩ : Shape).Idx → _) i = 1#1 → r.2.mem ((c.tc : Thread Cert.KernelIdeal.nD Cert.KernelIdeal.τ).loc Cert.KernelIdeal.main_v1) i = (Layout.blockN ⟨2, ![128, 512]⟩ ⟨2, ![512, 512]⟩ (Layout.meshBlock [2, 4, 4] ![[1], []] c) v0 : (⟨2, ![128, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 512]⟩ : Shape).Idx, (Cert.On_routed.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v270) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_routed : Cert.On_routed.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_routed (hKernelIdeal := hKernelIdeal) (hReferenceIdeal := hReferenceIdeal) (hOn_routed := hOn_routed)
-- ==== On_routed.lean ====
abbrev S512x512 : Shape := ⟨2, ![512, 512]⟩
abbrev S512x8 : Shape := ⟨2, ![512, 8]⟩
abbrev S8x512x1024 : Shape := ⟨3, ![8, 512, 1024]⟩
abbrev S8x1024x512 : Shape := ⟨3, ![8, 1024, 512]⟩
abbrev S512x1x8 : Shape := ⟨3, ![512, 1, 8]⟩
abbrev S512x8x1 : Shape := ⟨3, ![512, 8, 1]⟩
abbrev S512x8x8 : Shape := ⟨3, ![512, 8, 8]⟩
abbrev S_ : Shape := ⟨0, ![]⟩
abbrev S512 : Shape := ⟨1, ![512]⟩
abbrev S512x1 : Shape := ⟨2, ![512, 1]⟩

class Facts : Prop where
  bcast_S512x8_S512x1x8_0_2 : S512x8.BroadcastsInDim S512x1x8 (![0, 2] : Fin 2 → Fin S512x1x8.rank)
  bcast_S512x8_S512x8x1_0_1 : S512x8.BroadcastsInDim S512x8x1 (![0, 1] : Fin 2 → Fin S512x8x1.rank)
  bcast_S512x1x8_S512x8x8_0_1_2 : S512x1x8.BroadcastsInDim S512x8x8 (![0, 1, 2] : Fin 3 → Fin S512x8x8.rank)
  bcast_S512x8x1_S512x8x8_0_1_2 : S512x8x1.BroadcastsInDim S512x8x8 (![0, 1, 2] : Fin 3 → Fin S512x8x8.rank)
  natLt_1_32 : 1 < 32
  reducesTo_S512x8x8_S512x8_d2 : S512x8x8.ReducesTo [2] S512x8
  h_S_ : 0 < S_.numel
  bcast_S_S512x8 : S_.BroadcastsInDim S512x8 (![] : Fin 0 → Fin S512x8.rank)
  reducesTo_S512x8_S512_d1 : S512x8.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  dot_S512x512_S512x8_S512x8_1_0_0_1_n_n_wf : DotDims.WF S512x512 S512x8 S512x8 [1] [0] [0] [1] [] []

variable [Facts]

def dot_S512x512_S512x8_S512x8_1_0_0_1_n_n : DotDims S512x512 S512x8 S512x8 where
  lhsContracting := [1]
  rhsContracting := [0]
  lhsNonContracting := [0]
  rhsNonContracting := [1]
  lhsBatch := []
  rhsBatch := []
  wf := dot_S512x512_S512x8_S512x8_1_0_0_1_n_n_wf
def fn_part1 {F : FTy → Type} [FloatOps F] (main_v0 : FVec F S512x8 .f32) (main_v15 : IVec S512 32) (main_v17 : IVec S512 1) : IVec S512x512 1 :=
  let main_c_5 : IVec S_ 32 := constantI S_ 32 1#32
  let main_v18 : IVec S512 32 := broadcastInDim S512 ![] bcast_S_S512 main_c_5
  let main_v19 : IVec S512 1 := cmpi .eq main_v15 main_v18
  let main_v20 : IVec S512 1 := andi main_v17 main_v19
  let main_cst : FVec F S_ .f32 := constant S_ .f32 0xFF800000#32
  let main_v21 : FVec F S512 .f32 := (fun x v => Host.reduce FloatOps.maximumf x v reducesTo_S512x8_S512_d1 h_S_) main_v0 main_cst
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  let main_v24 : IVec S512 1 := andi main_v20 main_v23
  let main_v25 : IVec S512x1 1 := broadcastInDim S512x1 ![0] bcast_S512_S512x1_0 main_v24
  let main_v26 : IVec S512x512 1 := broadcastInDim S512x512 ![0, 1] bcast_S512x1_S512x512_0_1 main_v25
  main_v26

def fn {F : FTy → Type} [FloatOps F] (main_arg0 : FVec F S512x512 .f32) (main_arg1 : FVec F S512x8 .f32) (main_arg2 : FVec F S8x512x1024 .f32) (main_arg3 : FVec F S8x1024x512 .f32) : IVec S512x512 1 :=
  let main_v0 : FVec F S512x8 .f32 := (fun l r => Host.dotGeneral dot_S512x512_S512x8_S512x8_1_0_0_1_n_n none l r) main_arg0 main_arg1
  let main_v1 : FVec F S512x1x8 .f32 := broadcastInDim S512x1x8 ![0, 2] bcast_S512x8_S512x1x8_0_2 main_v0
  let main_v2 : FVec F S512x8x1 .f32 := broadcastInDim S512x8x1 ![0, 1] bcast_S512x8_S512x8x1_0_1 main_v0
  let main_v3 : FVec F S512x8x8 .f32 := broadcastInDim S512x8x8 ![0, 1, 2] bcast_S512x1x8_S512x8x8_0_1_2 main_v1
  let main_v4 : FVec F S512x8x8 .f32 := broadcastInDim S512x8x8 ![0, 1, 2] bcast_S512x8x1_S512x8x8_0_1_2 main_v2
  let main_v5 : IVec S512x8x8 1 := cmpf .ogt main_v3 main_v4
  let main_v6 : IVec S512x8x8 32 := (extui 32 · natLt_1_32) main_v5
  let main_c : IVec S_ 32 := constantI S_ 32 0#32
  let main_v7 : IVec S512x8 32 := (fun x v => Host.reduce IntOp.addi x v reducesTo_S512x8x8_S512x8_d2 h_S_) main_v6 main_c
  let main_c_0 : IVec S_ 32 := constantI S_ 32 0#32
  let main_v8 : IVec S512x8 32 := broadcastInDim S512x8 ![] bcast_S_S512x8 main_c_0
  let main_v9 : IVec S512x8 1 := cmpi .eq main_v7 main_v8
  let main_v10 : IVec S512x8 32 := (extui 32 · natLt_1_32) main_v9
  let main_c_1 : IVec S_ 32 := constantI S_ 32 0#32
  let main_v11 : IVec S512 32 := (fun x v => Host.reduce IntOp.addi x v reducesTo_S512x8_S512_d1 h_S_) main_v10 main_c_1
  let main_c_2 : IVec S_ 32 := constantI S_ 32 1#32
  let main_v12 : IVec S512x8 32 := broadcastInDim S512x8 ![] bcast_S_S512x8 main_c_2
  let main_v13 : IVec S512x8 1 := cmpi .eq main_v7 main_v12
  let main_v14 : IVec S512x8 32 := (extui 32 · natLt_1_32) main_v13
  let main_c_3 : IVec S_ 32 := constantI S_ 32 0#32
  let main_v15 : IVec S512 32 := (fun x v => Host.reduce IntOp.addi x v reducesTo_S512x8_S512_d1 h_S_) main_v14 main_c_3
  let main_c_4 : IVec S_ 32 := constantI S_ 32 1#32
  let main_v16 : IVec S512 32 := broadcastInDim S512 ![] bcast_S_S512 main_c_4
  let main_v17 : IVec S512 1 := cmpi .eq main_v11 main_v16
  fn_part1 (F := F) main_v0 main_v15 main_v17
-- ==== Kernel.lean ====
abbrev S128x512 : Shape := ⟨2, ![128, 512]⟩
abbrev S512x2 : Shape := ⟨2, ![512, 2]⟩
abbrev S2x512x1024 : Shape := ⟨3, ![2, 512, 1024]⟩
abbrev S2x1024x512 : Shape := ⟨3, ![2, 1024, 512]⟩
abbrev S4x128x512 : Shape := ⟨3, ![4, 128, 512]⟩
abbrev S4x512x2 : Shape := ⟨3, ![4, 512, 2]⟩
abbrev S512x512 : Shape := ⟨2, ![512, 512]⟩
abbrev S3x128x512 : Shape := ⟨3, ![3, 128, 512]⟩
abbrev S3 : Shape := ⟨1, ![3]⟩
abbrev S_ : Shape := ⟨0, ![]⟩
abbrev S1x128x512 : Shape := ⟨3, ![1, 128, 512]⟩
abbrev S1x512x2 : Shape := ⟨3, ![1, 512, 2]⟩
abbrev S1 : Shape := ⟨1, ![1]⟩
abbrev S512x8 : Shape := ⟨2, ![512, 8]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 5
  | .vmem => 12
  | .smem => 0
  | _ => 0

abbrev bufTy : (tb : Table) → Fin (tcTables nBuf tb) → BufTy
  | .hbm, ⟨0, _⟩ => ⟨S128x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S128x512, .f32⟩
  | .local _ .vmem, ⟨0, _⟩ => ⟨S128x512, .f32⟩
  | .local _ .vmem, ⟨1, _⟩ => ⟨S512x2, .f32⟩
  | .local _ .vmem, ⟨2, _⟩ => ⟨S2x512x1024, .f32⟩
  | .local _ .vmem, ⟨3, _⟩ => ⟨S2x1024x512, .f32⟩
  | .local _ .vmem, ⟨4, _⟩ => ⟨S128x512, .f32⟩
  | .local _ .vmem, ⟨5, _⟩ => ⟨S4x128x512, .f32⟩
  | .local _ .vmem, ⟨6, _⟩ => ⟨S4x512x2, .f32⟩
  | .local _ .vmem, ⟨7, _⟩ => ⟨S512x512, .f32⟩
  | .local _ .vmem, ⟨8, _⟩ => ⟨S4x512x2, .f32⟩
  | .local _ .vmem, ⟨9, _⟩ => ⟨S512x512, .f32⟩
  | .local _ .vmem, ⟨10, _⟩ => ⟨S3x128x512, .f32⟩
  | .local _ .vmem, ⟨11, _⟩ => ⟨S3x128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_18 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_17 : BitVec 32 := 16#32
  let v33 : BitVec 32 := Scalar.muli v5 c16_i32_17
  let v34 : BitVec 32 := Scalar.addi c0_i32_18 v33
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c4_i32_8 : BitVec 32 := 4#32
  let v20 : BitVec 32 := Scalar.addi v2 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_19 : BitVec 32 := 4#32
  let v35 : BitVec 32 := Scalar.muli v31 c4_i32_19
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v37 : BitVec 32 := Scalar.muli v8 c1_i32_20
  let v38 : BitVec 32 := Scalar.addi v36 v37
  v38.toNat
def k0_dev2 (d0 : Dev nD) : Nat :=
  let c0_i32_23 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_22 : BitVec 32 := 16#32
  let v39 : BitVec 32 := Scalar.muli v5 c16_i32_22
  let v40 : BitVec 32 := Scalar.addi c0_i32_23 v39
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_2 : BitVec 32 := 1#32
  let v9 : BitVec 32 := Scalar.addi v2 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_24 : BitVec 32 := 4#32
  let v41 : BitVec 32 := Scalar.muli v19 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v43 : BitVec 32 := Scalar.muli v8 c1_i32_25
  let v44 : BitVec 32 := Scalar.addi v42 v43
  v44.toNat
def k0_off1 (d0 : Dev nD) : Fin 2 → Nat :=
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c128_i32 : BitVec 32 := 128#32
  let v57 : BitVec 32 := Scalar.muli v2 c128_i32
  let v58 : Index := Scalar.indexCast v57
  let c0_38 : Index := 0#32
  ![v58.toNat, 0]
def k0_off2 (d0 : Dev nD) : Fin 3 → Nat :=
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let v65 : Index := Scalar.indexCast v2
  let c0_41 : Index := 0#32
  let c0_42 : Index := 0#32
  ![v65.toNat, 0, 0]
def k0_dev3 (d0 : Dev nD) : Nat :=
  let c0_i32_48 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_47 : BitVec 32 := 16#32
  let v69 : BitVec 32 := Scalar.muli v5 c16_i32_47
  let v70 : BitVec 32 := Scalar.addi c0_i32_48 v69
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_2 : BitVec 32 := 1#32
  let v9 : BitVec 32 := Scalar.addi v2 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_49 : BitVec 32 := 4#32
  let v71 : BitVec 32 := Scalar.muli v19 c4_i32_49
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v73 : BitVec 32 := Scalar.muli v8 c1_i32_50
  let v74 : BitVec 32 := Scalar.addi v72 v73
  v74.toNat
def k0_dev4 (d0 : Dev nD) : Nat :=
  let c0_i32_60 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_59 : BitVec 32 := 16#32
  let v83 : BitVec 32 := Scalar.muli v5 c16_i32_59
  let v84 : BitVec 32 := Scalar.addi c0_i32_60 v83
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_2 : BitVec 32 := 1#32
  let v9 : BitVec 32 := Scalar.addi v2 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_61 : BitVec 32 := 4#32
  let v85 : BitVec 32 := Scalar.muli v19 c4_i32_61
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v87 : BitVec 32 := Scalar.muli v8 c1_i32_62
  let v88 : BitVec 32 := Scalar.addi v86 v87
  v88.toNat
def k0_off3 (d0 : Dev nD) (c0_i32_110 : BitVec 32) : Fin 2 → Nat :=
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_109 : BitVec 32 := 1#32
  let v133 : BitVec 32 := Scalar.subi v2 c1_i32_109
  let v134 : BitVec 32 := Scalar.subi v133 c0_i32_110
  let c4_i32_111 : BitVec 32 := 4#32
  let c0_i32_112 : BitVec 32 := 0#32
  let v135 : BitVec 1 := Scalar.cmpi .eq c4_i32_111 c0_i32_112
  let c1_i32_113 : BitVec 32 := 1#32
  let v136 : BitVec 32 := Scalar.select v135 c1_i32_113 c4_i32_111
  let v137 : BitVec 32 := Scalar.remsi v134 v136
  let c0_i32_115 : BitVec 32 := 0#32
  let v139 : BitVec 1 := Scalar.cmpi .slt v137 c0_i32_115
  let c0_i32_116 : BitVec 32 := 0#32
  let v140 : BitVec 1 := Scalar.cmpi .slt v136 c0_i32_116
  let v141 : BitVec 1 := Scalar.xori v139 v140
  let c0_i32_114 : BitVec 32 := 0#32
  let v138 : BitVec 1 := Scalar.cmpi .ne v137 c0_i32_114
  let v142 : BitVec 1 := Scalar.andi v141 v138
  let v143 : BitVec 32 := Scalar.addi v137 v136
  let v144 : BitVec 32 := Scalar.select v142 v143 v137
  let c128_i32_119 : BitVec 32 := 128#32
  let v147 : BitVec 32 := Scalar.muli v144 c128_i32_119
  let v148 : Index := Scalar.indexCast v147
  let c0_120 : Index := 0#32
  ![v148.toNat, 0]
def k0_off4 (d0 : Dev nD) (c0_i32_110 : BitVec 32) : Fin 3 → Nat :=
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_109 : BitVec 32 := 1#32
  let v133 : BitVec 32 := Scalar.subi v2 c1_i32_109
  let v134 : BitVec 32 := Scalar.subi v133 c0_i32_110
  let c4_i32_111 : BitVec 32 := 4#32
  let c0_i32_112 : BitVec 32 := 0#32
  let v135 : BitVec 1 := Scalar.cmpi .eq c4_i32_111 c0_i32_112
  let c1_i32_113 : BitVec 32 := 1#32
  let v136 : BitVec 32 := Scalar.select v135 c1_i32_113 c4_i32_111
  let v137 : BitVec 32 := Scalar.remsi v134 v136
  let c0_i32_115 : BitVec 32 := 0#32
  let v139 : BitVec 1 := Scalar.cmpi .slt v137 c0_i32_115
  let c0_i32_116 : BitVec 32 := 0#32
  let v140 : BitVec 1 := Scalar.cmpi .slt v136 c0_i32_116
  let v141 : BitVec 1 := Scalar.xori v139 v140
  let c0_i32_114 : BitVec 32 := 0#32
  let v138 : BitVec 1 := Scalar.cmpi .ne v137 c0_i32_114
  let v142 : BitVec 1 := Scalar.andi v141 v138
  let v143 : BitVec 32 := Scalar.addi v137 v136
  let v144 : BitVec 32 := Scalar.select v142 v143 v137
  let v155 : Index := Scalar.indexCast v144
  let c0_124 : Index := 0#32
  let c0_125 : Index := 0#32
  ![v155.toNat, 0, 0]
def k0_dev5 (d0 : Dev nD) : Nat :=
  let c0_i32_131 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_130 : BitVec 32 := 16#32
  let v159 : BitVec 32 := Scalar.muli v5 c16_i32_130
  let v160 : BitVec 32 := Scalar.addi c0_i32_131 v159
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_2 : BitVec 32 := 1#32
  let v9 : BitVec 32 := Scalar.addi v2 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_132 : BitVec 32 := 4#32
  let v161 : BitVec 32 := Scalar.muli v19 c4_i32_132
  let v162 : BitVec 32 := Scalar.addi v160 v161
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v163 : BitVec 32 := Scalar.muli v8 c1_i32_133
  let v164 : BitVec 32 := Scalar.addi v162 v163
  v164.toNat
def k0_dev6 (d0 : Dev nD) : Nat :=
  let c0_i32_143 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_142 : BitVec 32 := 16#32
  let v173 : BitVec 32 := Scalar.muli v5 c16_i32_142
  let v174 : BitVec 32 := Scalar.addi c0_i32_143 v173
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_2 : BitVec 32 := 1#32
  let v9 : BitVec 32 := Scalar.addi v2 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_144 : BitVec 32 := 4#32
  let v175 : BitVec 32 := Scalar.muli v19 c4_i32_144
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_145 : BitVec 32 := 1#32
  let v177 : BitVec 32 := Scalar.muli v8 c1_i32_145
  let v178 : BitVec 32 := Scalar.addi v176 v177
  v178.toNat
def k0_dev7 (d0 : Dev nD) : Nat :=
  let c0_i32_213 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_212 : BitVec 32 := 16#32
  let v249 : BitVec 32 := Scalar.muli v5 c16_i32_212
  let v250 : BitVec 32 := Scalar.addi c0_i32_213 v249
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_2 : BitVec 32 := 1#32
  let v9 : BitVec 32 := Scalar.addi v2 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_214 : BitVec 32 := 4#32
  let v251 : BitVec 32 := Scalar.muli v19 c4_i32_214
  let v252 : BitVec 32 := Scalar.addi v250 v251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v253 : BitVec 32 := Scalar.muli v8 c1_i32_215
  let v254 : BitVec 32 := Scalar.addi v252 v253
  v254.toNat
def k0_dev8 (d0 : Dev nD) : Nat :=
  let c0_i32_225 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_224 : BitVec 32 := 16#32
  let v263 : BitVec 32 := Scalar.muli v5 c16_i32_224
  let v264 : BitVec 32 := Scalar.addi c0_i32_225 v263
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_2 : BitVec 32 := 1#32
  let v9 : BitVec 32 := Scalar.addi v2 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_226 : BitVec 32 := 4#32
  let v265 : BitVec 32 := Scalar.muli v19 c4_i32_226
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_227 : BitVec 32 := 1#32
  let v267 : BitVec 32 := Scalar.muli v8 c1_i32_227
  let v268 : BitVec 32 := Scalar.addi v266 v267
  v268.toNat
def k0_dev9 (d0 : Dev nD) : Nat :=
  let c0_i32_359 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_358 : BitVec 32 := 16#32
  let v437 : BitVec 32 := Scalar.muli v5 c16_i32_358
  let v438 : BitVec 32 := Scalar.addi c0_i32_359 v437
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_2 : BitVec 32 := 1#32
  let v9 : BitVec 32 := Scalar.addi v2 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_360 : BitVec 32 := 4#32
  let v439 : BitVec 32 := Scalar.muli v19 c4_i32_360
  let v440 : BitVec 32 := Scalar.addi v438 v439
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_361 : BitVec 32 := 1#32
  let v441 : BitVec 32 := Scalar.muli v8 c1_i32_361
  let v442 : BitVec 32 := Scalar.addi v440 v441
  v442.toNat
def k0_dev10 (d0 : Dev nD) : Nat :=
  let c0_i32_408 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_407 : BitVec 32 := 16#32
  let v490 : BitVec 32 := Scalar.muli v5 c16_i32_407
  let v491 : BitVec 32 := Scalar.addi c0_i32_408 v490
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_2 : BitVec 32 := 1#32
  let v9 : BitVec 32 := Scalar.addi v2 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_409 : BitVec 32 := 4#32
  let v492 : BitVec 32 := Scalar.muli v19 c4_i32_409
  let v493 : BitVec 32 := Scalar.addi v491 v492
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_410 : BitVec 32 := 1#32
  let v494 : BitVec 32 := Scalar.muli v8 c1_i32_410
  let v495 : BitVec 32 := Scalar.addi v493 v494
  v495.toNat
def k0_dev11 (d0 : Dev nD) : Nat :=
  let c0_i32_457 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_456 : BitVec 32 := 16#32
  let v543 : BitVec 32 := Scalar.muli v5 c16_i32_456
  let v544 : BitVec 32 := Scalar.addi c0_i32_457 v543
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_2 : BitVec 32 := 1#32
  let v9 : BitVec 32 := Scalar.addi v2 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_458 : BitVec 32 := 4#32
  let v545 : BitVec 32 := Scalar.muli v19 c4_i32_458
  let v546 : BitVec 32 := Scalar.addi v544 v545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_459 : BitVec 32 := 1#32
  let v547 : BitVec 32 := Scalar.muli v8 c1_i32_459
  let v548 : BitVec 32 := Scalar.addi v546 v547
  v548.toNat
abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x512 : Shape := ⟨2, ![512, 512]⟩
abbrev S512x8 : Shape := ⟨2, ![512, 8]⟩
abbrev S8x512x1024 : Shape := ⟨3, ![8, 512, 1024]⟩
abbrev S8x1024x512 : Shape := ⟨3, ![8, 1024, 512]⟩
abbrev S512x2 : Shape := ⟨2, ![512, 2]⟩
abbrev S_ : Shape := ⟨0, ![]⟩
abbrev S512x2x1 : Shape := ⟨3, ![512, 2, 1]⟩
abbrev S1 : Shape := ⟨1, ![1]⟩
abbrev S1x1x1 : Shape := ⟨3, ![1, 1, 1]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 397
  | .vmem => 0
  | .smem => 0
  | _ => 0

abbrev hbmTy0_0 (i : Nat) : BufTy := match i % 128 with
  | 0 => ⟨S512x512, .f32⟩
  | 1 => ⟨S512x8, .f32⟩
  | 2 => ⟨S8x512x1024, .f32⟩
  | 3 => ⟨S8x1024x512, .f32⟩
  | 4 => ⟨S512x8, .f32⟩
  | 5 => ⟨S512x8, .f32⟩
  | 6 => ⟨S512x8, .i32⟩
  | 7 => ⟨S512x8, .f32⟩
  | 8 => ⟨S512x8, .i32⟩
  | 9 => ⟨S512x2, .i32⟩
  | 10 => ⟨S_, .i32⟩
  | 11 => ⟨S512x2, .i32⟩
  | 12 => ⟨S512x2, .i1⟩
  | 13 => ⟨S_, .i32⟩
  | 14 => ⟨S512x2, .i32⟩
  | 15 => ⟨S512x2, .i32⟩
  | 16 => ⟨S512x2, .i32⟩
  | 17 => ⟨S512x2x1, .i32⟩
  | 18 => ⟨S1, .i32⟩
  | 19 => ⟨S_, .i32⟩
  | 20 => ⟨S512x2x1, .i32⟩
  | 21 => ⟨S512x2x1, .i1⟩
  | 22 => ⟨S1x1x1, .i32⟩
  | 23 => ⟨S512x2x1, .i32⟩
  | 24 => ⟨S512x2x1, .i1⟩
  | 25 => ⟨S512x2x1, .i1⟩
  | 26 => ⟨S_, .i1⟩
  | 27 => ⟨S512x2, .i1⟩
  | 28 => ⟨S512x2, .f32⟩
  | 29 => ⟨S_, .f32⟩
  | 30 => ⟨S512x2, .f32⟩
  | 31 => ⟨S512x2, .f32⟩
  | 32 => ⟨S_, .f32⟩
  | 33 => ⟨S512, .f32⟩
  | 34 => ⟨S512x1, .f32⟩
  | 35 => ⟨S512x2, .f32⟩
  | 36 => ⟨S512x2, .f32⟩
  | 37 => ⟨S512x2, .f32⟩
  | 38 => ⟨S_, .f32⟩
  | 39 => ⟨S512, .f32⟩
  | 40 => ⟨S512x1, .f32⟩
  | 41 => ⟨S512x2, .f32⟩
  | 42 => ⟨S512x2, .f32⟩
  | 43 => ⟨S_, .f32⟩
  | 44 => ⟨S512x512, .f32⟩
  | 45 => ⟨S512x1, .i32⟩
  | 46 => ⟨S_, .i32⟩
  | 47 => ⟨S512x1, .i32⟩
  | 48 => ⟨S512x1, .i1⟩
  | 49 => ⟨S1x512x1024, .f32⟩
  | 50 => ⟨S512x1024, .f32⟩
  | 51 => ⟨S512x1024, .f32⟩
  | 52 => ⟨S_, .f32⟩
  | 53 => ⟨S512x1024, .f32⟩
  | 54 => ⟨S512x1024, .f32⟩
  | 55 => ⟨S1x1024x512, .f32⟩
  | 56 => ⟨S1024x512, .f32⟩
  | 57 => ⟨S512x512, .f32⟩
  | 58 => ⟨S512x1, .f32⟩
  | 59 => ⟨S512x512, .f32⟩
  | 60 => ⟨S512x512, .f32⟩
  | 61 => ⟨S_, .f32⟩
  | 62 => ⟨S_, .f32⟩
  | 63 => ⟨S512x512, .i1⟩
  | 64 => ⟨S512x512, .f32⟩
  | 65 => ⟨S512x512, .f32⟩
  | 66 => ⟨S512x512, .f32⟩
  | 67 => ⟨S512x1, .i32⟩
  | 68 => ⟨S_, .i32⟩
  | 69 => ⟨S512x1, .i32⟩
  | 70 => ⟨S512x1, .i1⟩
  | 71 => ⟨S1x512x1024, .f32⟩
  | 72 => ⟨S512x1024, .f32⟩
  | 73 => ⟨S512x1024, .f32⟩
  | 74 => ⟨S_, .f32⟩
  | 75 => ⟨S512x1024, .f32⟩
  | 76 => ⟨S512x1024, .f32⟩
  | 77 => ⟨S1x1024x512, .f32⟩
  | 78 => ⟨S1024x512, .f32⟩
  | 79 => ⟨S512x512, .f32⟩
  | 80 => ⟨S512x1, .f32⟩
  | 81 => ⟨S512x512, .f32⟩
  | 82 => ⟨S512x512, .f32⟩
  | 83 => ⟨S_, .f32⟩
  | 84 => ⟨S_, .f32⟩
  | 85 => ⟨S512x512, .i1⟩
  | 86 => ⟨S512x512, .f32⟩
  | 87 => ⟨S512x512, .f32⟩
  | 88 => ⟨S512x512, .f32⟩
  | 89 => ⟨S512x1, .i32⟩
  | 90 => ⟨S_, .i32⟩
  | 91 => ⟨S512x1, .i32⟩
  | 92 => ⟨S512x1, .i1⟩
  | 93 => ⟨S1x512x1024, .f32⟩
  | 94 => ⟨S512x1024, .f32⟩
  | 95 => ⟨S512x1024, .f32⟩
  | 96 => ⟨S_, .f32⟩
  | 97 => ⟨S512x1024, .f32⟩
  | 98 => ⟨S512x1024, .f32⟩
  | 99 => ⟨S1x1024x512, .f32⟩
  | 100 => ⟨S1024x512, .f32⟩
  | 101 => ⟨S512x512, .f32⟩
  | 102 => ⟨S512x1, .f32⟩
  | 103 => ⟨S512x512, .f32⟩
  | 104 => ⟨S512x512, .f32⟩
  | 105 => ⟨S_, .f32⟩
  | 106 => ⟨S_, .f32⟩
  | 107 => ⟨S512x512, .i1⟩
  | 108 => ⟨S512x512, .f32⟩
  | 109 => ⟨S512x512, .f32⟩
  | 110 => ⟨S512x512, .f32⟩
  | 111 => ⟨S512x1, .i32⟩
  | 112 => ⟨S_, .i32⟩
  | 113 => ⟨S512x1, .i32⟩
  | 114 => ⟨S512x1, .i1⟩
  | 115 => ⟨S1x512x1024, .f32⟩
  | 116 => ⟨S512x1024, .f32⟩
  | 117 => ⟨S512x1024, .f32⟩
  | 118 => ⟨S_, .f32⟩
  | 119 => ⟨S512x1024, .f32⟩
  | 120 => ⟨S512x1024, .f32⟩
  | 121 => ⟨S1x1024x512, .f32⟩
  | 122 => ⟨S1024x512, .f32⟩
  | 123 => ⟨S512x512, .f32⟩
  | 124 => ⟨S512x1, .f32⟩
  | 125 => ⟨S512x512, .f32⟩
  | 126 => ⟨S512x512, .f32⟩
  | 127 => ⟨S_, .f32⟩
  | _ => ⟨S512x512, .f32⟩

abbrev hbmTy0_1 (i : Nat) : BufTy := match i % 128 with
  | 0 => ⟨S_, .f32⟩
  | 1 => ⟨S512x512, .i1⟩
  | 2 => ⟨S512x512, .f32⟩
  | 3 => ⟨S512x512, .f32⟩
  | 4 => ⟨S512x512, .f32⟩
  | 5 => ⟨S512x1, .i32⟩
  | 6 => ⟨S_, .i32⟩
  | 7 => ⟨S512x1, .i32⟩
  | 8 => ⟨S512x1, .i1⟩
  | 9 => ⟨S1x512x1024, .f32⟩
  | 10 => ⟨S512x1024, .f32⟩
  | 11 => ⟨S512x1024, .f32⟩
  | 12 => ⟨S_, .f32⟩
  | 13 => ⟨S512x1024, .f32⟩
  | 14 => ⟨S512x1024, .f32⟩
  | 15 => ⟨S1x1024x512, .f32⟩
  | 16 => ⟨S1024x512, .f32⟩
  | 17 => ⟨S512x512, .f32⟩
  | 18 => ⟨S512x1, .f32⟩
  | 19 => ⟨S512x512, .f32⟩
  | 20 => ⟨S512x512, .f32⟩
  | 21 => ⟨S_, .f32⟩
  | 22 => ⟨S_, .f32⟩
  | 23 => ⟨S512x512, .i1⟩
  | 24 => ⟨S512x512, .f32⟩
  | 25 => ⟨S512x512, .f32⟩
  | 26 => ⟨S512x512, .f32⟩
  | 27 => ⟨S512x1, .i32⟩
  | 28 => ⟨S_, .i32⟩
  | 29 => ⟨S512x1, .i32⟩
  | 30 => ⟨S512x1, .i1⟩
  | 31 => ⟨S1x512x1024, .f32⟩
  | 32 => ⟨S512x1024, .f32⟩
  | 33 => ⟨S512x1024, .f32⟩
  | 34 => ⟨S_, .f32⟩
  | 35 => ⟨S512x1024, .f32⟩
  | 36 => ⟨S512x1024, .f32⟩
  | 37 => ⟨S1x1024x512, .f32⟩
  | 38 => ⟨S1024x512, .f32⟩
  | 39 => ⟨S512x512, .f32⟩
  | 40 => ⟨S512x1, .f32⟩
  | 41 => ⟨S512x512, .f32⟩
  | 42 => ⟨S512x512, .f32⟩
  | 43 => ⟨S_, .f32⟩
  | 44 => ⟨S_, .f32⟩
  | 45 => ⟨S512x512, .i1⟩
  | 46 => ⟨S512x512, .f32⟩
  | 47 => ⟨S512x512, .f32⟩
  | 48 => ⟨S512x512, .f32⟩
  | 49 => ⟨S512x1, .i32⟩
  | 50 => ⟨S_, .i32⟩
  | 51 => ⟨S512x1, .i32⟩
  | 52 => ⟨S512x1, .i1⟩
  | 53 => ⟨S1x512x1024, .f32⟩
  | 54 => ⟨S512x1024, .f32⟩
  | 55 => ⟨S512x1024, .f32⟩
  | 56 => ⟨S_, .f32⟩
  | 57 => ⟨S512x1024, .f32⟩
  | 58 => ⟨S512x1024, .f32⟩
  | 59 => ⟨S1x1024x512, .f32⟩
  | 60 => ⟨S1024x512, .f32⟩
  | 61 => ⟨S512x512, .f32⟩
  | 62 => ⟨S512x1, .f32⟩
  | 63 => ⟨S512x512, .f32⟩
  | 64 => ⟨S512x512, .f32⟩
  | 65 => ⟨S_, .f32⟩
  | 66 => ⟨S_, .f32⟩
  | 67 => ⟨S512x512, .i1⟩
  | 68 => ⟨S512x512, .f32⟩
  | 69 => ⟨S512x512, .f32⟩
  | 70 => ⟨S512x512, .f32⟩
  | 71 => ⟨S512x1, .i32⟩
  | 72 => ⟨S_, .i32⟩
  | 73 => ⟨S512x1, .i32⟩
  | 74 => ⟨S512x1, .i1⟩
  | 75 => ⟨S1x512x1024, .f32⟩
  | 76 => ⟨S512x1024, .f32⟩
  | 77 => ⟨S512x1024, .f32⟩
  | 78 => ⟨S_, .f32⟩
  | 79 => ⟨S512x1024, .f32⟩
  | 80 => ⟨S512x1024, .f32⟩
  | 81 => ⟨S1x1024x512, .f32⟩
  | 82 => ⟨S1024x512, .f32⟩
  | 83 => ⟨S512x512, .f32⟩
  | 84 => ⟨S512x1, .f32⟩
  | 85 => ⟨S512x512, .f32⟩
  | 86 => ⟨S512x512, .f32⟩
  | 87 => ⟨S_, .f32⟩
  | 88 => ⟨S_, .f32⟩
  | 89 => ⟨S512x512, .i1⟩
  | 90 => ⟨S512x512, .f32⟩
  | 91 => ⟨S512x512, .f32⟩
  | 92 => ⟨S512x512, .f32⟩
  | 93 => ⟨S512x1, .i32⟩
  | 94 => ⟨S_, .i32⟩
  | 95 => ⟨S512x1, .i32⟩
  | 96 => ⟨S512x1, .i1⟩
  | 97 => ⟨S1x512x1024, .f32⟩
  | 98 => ⟨S512x1024, .f32⟩
  | 99 => ⟨S512x1024, .f32⟩
  | 100 => ⟨S_, .f32⟩
  | 101 => ⟨S512x1024, .f32⟩
  | 102 => ⟨S512x1024, .f32⟩
  | 103 => ⟨S1x1024x512, .f32⟩
  | 104 => ⟨S1024x512, .f32⟩
  | 105 => ⟨S512x512, .f32⟩
  | 106 => ⟨S512x1, .f32⟩
  | 107 => ⟨S512x512, .f32⟩
  | 108 => ⟨S512x512, .f32⟩
  | 109 => ⟨S_, .f32⟩
  | 110 => ⟨S_, .f32⟩
  | 111 => ⟨S512x512, .i1⟩
  | 112 => ⟨S512x512, .f32⟩
  | 113 => ⟨S512x512, .f32⟩
  | 114 => ⟨S512x512, .f32⟩
  | 115 => ⟨S512x1, .i32⟩
  | 116 => ⟨S_, .i32⟩
  | 117 => ⟨S512x1, .i32⟩
  | 118 => ⟨S512x1, .i1⟩
  | 119 => ⟨S1x512x1024, .f32⟩
  | 120 => ⟨S512x1024, .f32⟩
  | 121 => ⟨S512x1024, .f32⟩
  | 122 => ⟨S_, .f32⟩
  | 123 => ⟨S512x1024, .f32⟩
  | 124 => ⟨S512x1024, .f32⟩
  | 125 => ⟨S1x1024x512, .f32⟩
  | 126 => ⟨S1024x512, .f32⟩
  | 127 => ⟨S512x512, .f32⟩
  | _ => ⟨S512x512, .f32⟩

abbrev hbmTy0_2 (i : Nat) : BufTy := match i % 128 with
  | 0 => ⟨S512x1, .f32⟩
  | 1 => ⟨S512x512, .f32⟩
  | 2 => ⟨S512x512, .f32⟩
  | 3 => ⟨S_, .f32⟩
  | 4 => ⟨S_, .f32⟩
  | 5 => ⟨S512x512, .i1⟩
  | 6 => ⟨S512x512, .f32⟩
  | 7 => ⟨S512x512, .f32⟩
  | 8 => ⟨S512x512, .f32⟩
  | 9 => ⟨S512x1, .i32⟩
  | 10 => ⟨S_, .i32⟩
  | 11 => ⟨S512x1, .i32⟩
  | 12 => ⟨S512x1, .i1⟩
  | 13 => ⟨S1x512x1024, .f32⟩
  | 14 => ⟨S512x1024, .f32⟩
  | 15 => ⟨S512x1024, .f32⟩
  | 16 => ⟨S_, .f32⟩
  | 17 => ⟨S512x1024, .f32⟩
  | 18 => ⟨S512x1024, .f32⟩
  | 19 => ⟨S1x1024x512, .f32⟩
  | 20 => ⟨S1024x512, .f32⟩
  | 21 => ⟨S512x512, .f32⟩
  | 22 => ⟨S512x1, .f32⟩
  | 23 => ⟨S512x512, .f32⟩
  | 24 => ⟨S512x512, .f32⟩
  | 25 => ⟨S_, .f32⟩
  | 26 => ⟨S_, .f32⟩
  | 27 => ⟨S512x512, .i1⟩
  | 28 => ⟨S512x512, .f32⟩
  | 29 => ⟨S512x512, .f32⟩
  | 30 => ⟨S512x512, .f32⟩
  | 31 => ⟨S512x1, .i32⟩
  | 32 => ⟨S_, .i32⟩
  | 33 => ⟨S512x1, .i32⟩
  | 34 => ⟨S512x1, .i1⟩
  | 35 => ⟨S1x512x1024, .f32⟩
  | 36 => ⟨S512x1024, .f32⟩
  | 37 => ⟨S512x1024, .f32⟩
  | 38 => ⟨S_, .f32⟩
  | 39 => ⟨S512x1024, .f32⟩
  | 40 => ⟨S512x1024, .f32⟩
  | 41 => ⟨S1x1024x512, .f32⟩
  | 42 => ⟨S1024x512, .f32⟩
  | 43 => ⟨S512x512, .f32⟩
  | 44 => ⟨S512x1, .f32⟩
  | 45 => ⟨S512x512, .f32⟩
  | 46 => ⟨S512x512, .f32⟩
  | 47 => ⟨S_, .f32⟩
  | 48 => ⟨S_, .f32⟩
  | 49 => ⟨S512x512, .i1⟩
  | 50 => ⟨S512x512, .f32⟩
  | 51 => ⟨S512x512, .f32⟩
  | 52 => ⟨S512x512, .f32⟩
  | 53 => ⟨S512x1, .i32⟩
  | 54 => ⟨S_, .i32⟩
  | 55 => ⟨S512x1, .i32⟩
  | 56 => ⟨S512x1, .i1⟩
  | 57 => ⟨S1x512x1024, .f32⟩
  | 58 => ⟨S512x1024, .f32⟩
  | 59 => ⟨S512x1024, .f32⟩
  | 60 => ⟨S_, .f32⟩
  | 61 => ⟨S512x1024, .f32⟩
  | 62 => ⟨S512x1024, .f32⟩
  | 63 => ⟨S1x1024x512, .f32⟩
  | 64 => ⟨S1024x512, .f32⟩
  | 65 => ⟨S512x512, .f32⟩
  | 66 => ⟨S512x1, .f32⟩
  | 67 => ⟨S512x512, .f32⟩
  | 68 => ⟨S512x512, .f32⟩
  | 69 => ⟨S_, .f32⟩
  | 70 => ⟨S_, .f32⟩
  | 71 => ⟨S512x512, .i1⟩
  | 72 => ⟨S512x512, .f32⟩
  | 73 => ⟨S512x512, .f32⟩
  | 74 => ⟨S512x512, .f32⟩
  | 75 => ⟨S512x1, .i32⟩
  | 76 => ⟨S_, .i32⟩
  | 77 => ⟨S512x1, .i32⟩
  | 78 => ⟨S512x1, .i1⟩
  | 79 => ⟨S1x512x1024, .f32⟩
  | 80 => ⟨S512x1024, .f32⟩
  | 81 => ⟨S512x1024, .f32⟩
  | 82 => ⟨S_, .f32⟩
  | 83 => ⟨S512x1024, .f32⟩
  | 84 => ⟨S512x1024, .f32⟩
  | 85 => ⟨S1x1024x512, .f32⟩
  | 86 => ⟨S1024x512, .f32⟩
  | 87 => ⟨S512x512, .f32⟩
  | 88 => ⟨S512x1, .f32⟩
  | 89 => ⟨S512x512, .f32⟩
  | 90 => ⟨S512x512, .f32⟩
  | 91 => ⟨S_, .f32⟩
  | 92 => ⟨S_, .f32⟩
  | 93 => ⟨S512x512, .i1⟩
  | 94 => ⟨S512x512, .f32⟩
  | 95 => ⟨S512x512, .f32⟩
  | 96 => ⟨S512x512, .f32⟩
  | 97 => ⟨S512x1, .i32⟩
  | 98 => ⟨S_, .i32⟩
  | 99 => ⟨S512x1, .i32⟩
  | 100 => ⟨S512x1, .i1⟩
  | 101 => ⟨S1x512x1024, .f32⟩
  | 102 => ⟨S512x1024, .f32⟩
  | 103 => ⟨S512x1024, .f32⟩
  | 104 => ⟨S_, .f32⟩
  | 105 => ⟨S512x1024, .f32⟩
  | 106 => ⟨S512x1024, .f32⟩
  | 107 => ⟨S1x1024x512, .f32⟩
  | 108 => ⟨S1024x512, .f32⟩
  | 109 => ⟨S512x512, .f32⟩
  | 110 => ⟨S512x1, .f32⟩
  | 111 => ⟨S512x512, .f32⟩
  | 112 => ⟨S512x512, .f32⟩
  | 113 => ⟨S_, .f32⟩
  | 114 => ⟨S_, .f32⟩
  | 115 => ⟨S512x512, .i1⟩
  | 116 => ⟨S512x512, .f32⟩
  | 117 => ⟨S512x512, .f32⟩
  | 118 => ⟨S512x512, .f32⟩
  | 119 => ⟨S512x1, .i32⟩
  | 120 => ⟨S_, .i32⟩
  | 121 => ⟨S512x1, .i32⟩
  | 122 => ⟨S512x1, .i1⟩
  | 123 => ⟨S1x512x1024, .f32⟩
  | 124 => ⟨S512x1024, .f32⟩
  | 125 => ⟨S512x1024, .f32⟩
  | 126 => ⟨S_, .f32⟩
  | 127 => ⟨S512x1024, .f32⟩
  | _ => ⟨S512x512, .f32⟩

abbrev hbmTy0_3 (i : Nat) : BufTy := match i % 128 with
  | 0 => ⟨S512x1024, .f32⟩
  | 1 => ⟨S1x1024x512, .f32⟩
  | 2 => ⟨S1024x512, .f32⟩
  | 3 => ⟨S512x512, .f32⟩
  | 4 => ⟨S512x1, .f32⟩
  | 5 => ⟨S512x512, .f32⟩
  | 6 => ⟨S512x512, .f32⟩
  | 7 => ⟨S_, .f32⟩
  | 8 => ⟨S_, .f32⟩
  | 9 => ⟨S512x512, .i1⟩
  | 10 => ⟨S512x512, .f32⟩
  | 11 => ⟨S512x512, .f32⟩
  | 12 => ⟨S512x512, .f32⟩
  | _ => ⟨S512x512, .f32⟩

abbrev hbmTy (i : Nat) : BufTy := match i / 128 with
  | 0 => hbmTy0_0 i
  | 1 => hbmTy0_1 i
  | 2 => hbmTy0_2 i
  | 3 => hbmTy0_3 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1_0 : Ref sig .tc := ⟨.hbm, 7, rfl⟩
abbrev main_v2 : Ref sig .tc := ⟨.hbm, 8, rfl⟩
abbrev main_v3 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_1 : Ref sig .tc := ⟨.hbm, 43, rfl⟩
abbrev main_v14 : Ref sig .tc := ⟨.hbm, 44, rfl⟩
abbrev main_v15 : Ref sig .tc := ⟨.hbm, 45, rfl⟩
abbrev main_c : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_3 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_c_4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_5 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_6 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_c_7 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_8 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_9 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_c_10 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_11 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_12 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_c_13 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_14 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_15 : Ref sig .tc := ⟨.hbm, 149, rfl⟩
abbrev main_call6_v0 : Ref sig .tc := ⟨.hbm, 150, rfl⟩
abbrev main_call6_v1 : Ref sig .tc := ⟨.hbm, 151, rfl⟩
abbrev main_call6_v2 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_c_16 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_17 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_cst_18 : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_c_19 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_cst_20 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_cst_21 : Ref sig .tc := ⟨.hbm, 193, rfl⟩
abbrev main_call8_v0 : Ref sig .tc := ⟨.hbm, 194, rfl⟩
abbrev main_call8_v1 : Ref sig .tc := ⟨.hbm, 195, rfl⟩
abbrev main_call8_v2 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_c_22 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_cst_23 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_cst_24 : Ref sig .tc := ⟨.hbm, 215, rfl⟩
abbrev main_call9_v0 : Ref sig .tc := ⟨.hbm, 216, rfl⟩
abbrev main_call9_v1 : Ref sig .tc := ⟨.hbm, 217, rfl⟩
abbrev main_call9_v2 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_c_25 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_cst_26 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_cst_27 : Ref sig .tc := ⟨.hbm, 237, rfl⟩
abbrev main_call10_v0 : Ref sig .tc := ⟨.hbm, 238, rfl⟩
abbrev main_call10_v1 : Ref sig .tc := ⟨.hbm, 239, rfl⟩
abbrev main_call10_v2 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_c_28 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_cst_29 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_cst_30 : Ref sig .tc := ⟨.hbm, 259, rfl⟩
abbrev main_call11_v0 : Ref sig .tc := ⟨.hbm, 260, rfl⟩
abbrev main_call11_v1 : Ref sig .tc := ⟨.hbm, 261, rfl⟩
abbrev main_call11_v2 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_c_31 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_cst_32 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_cst_33 : Ref sig .tc := ⟨.hbm, 281, rfl⟩
abbrev main_call12_v0 : Ref sig .tc := ⟨.hbm, 282, rfl⟩
abbrev main_call12_v1 : Ref sig .tc := ⟨.hbm, 283, rfl⟩
abbrev main_call12_v2 : Ref sig .tc := ⟨.hbm, 284, rfl⟩
abbrev main_v189 : Ref sig .tc := ⟨.hbm, 285, rfl⟩
abbrev main_v190 : Ref sig .tc := ⟨.hbm, 286, rfl⟩
abbrev main_v191 : Ref sig .tc := ⟨.hbm, 287, rfl⟩
abbrev main_c_34 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_v195 : Ref sig .tc := ⟨.hbm, 292, rfl⟩
abbrev main_v196 : Ref sig .tc := ⟨.hbm, 293, rfl⟩
abbrev main_cst_35 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_v204 : Ref sig .tc := ⟨.hbm, 302, rfl⟩
abbrev main_cst_36 : Ref sig .tc := ⟨.hbm, 303, rfl⟩
abbrev main_call13_v0 : Ref sig .tc := ⟨.hbm, 304, rfl⟩
abbrev main_call13_v1 : Ref sig .tc := ⟨.hbm, 305, rfl⟩
abbrev main_call13_v2 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_c_37 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_cst_38 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_cst_39 : Ref sig .tc := ⟨.hbm, 325, rfl⟩
abbrev main_call14_v0 : Ref sig .tc := ⟨.hbm, 326, rfl⟩
abbrev main_call14_v1 : Ref sig .tc := ⟨.hbm, 327, rfl⟩
abbrev main_call14_v2 : Ref sig .tc := ⟨.hbm, 328, rfl⟩
abbrev main_v221 : Ref sig .tc := ⟨.hbm, 329, rfl⟩
abbrev main_v222 : Ref sig .tc := ⟨.hbm, 330, rfl⟩
abbrev main_v223 : Ref sig .tc := ⟨.hbm, 331, rfl⟩
abbrev main_c_40 : Ref sig .tc := ⟨.hbm, 332, rfl⟩
abbrev main_v224 : Ref sig .tc := ⟨.hbm, 333, rfl⟩
abbrev main_v225 : Ref sig .tc := ⟨.hbm, 334, rfl⟩
abbrev main_v226 : Ref sig .tc := ⟨.hbm, 335, rfl⟩
abbrev main_v227 : Ref sig .tc := ⟨.hbm, 336, rfl⟩
abbrev main_v228 : Ref sig .tc := ⟨.hbm, 337, rfl⟩
abbrev main_cst_41 : Ref sig .tc := ⟨.hbm, 338, rfl⟩
abbrev main_v229 : Ref sig .tc := ⟨.hbm, 339, rfl⟩
abbrev main_v230 : Ref sig .tc := ⟨.hbm, 340, rfl⟩
abbrev main_v231 : Ref sig .tc := ⟨.hbm, 341, rfl⟩
abbrev main_v232 : Ref sig .tc := ⟨.hbm, 342, rfl⟩
abbrev main_v233 : Ref sig .tc := ⟨.hbm, 343, rfl⟩
abbrev main_v234 : Ref sig .tc := ⟨.hbm, 344, rfl⟩
abbrev main_v235 : Ref sig .tc := ⟨.hbm, 345, rfl⟩
abbrev main_v236 : Ref sig .tc := ⟨.hbm, 346, rfl⟩
abbrev main_cst_42 : Ref sig .tc := ⟨.hbm, 347, rfl⟩
abbrev main_call15_v0 : Ref sig .tc := ⟨.hbm, 348, rfl⟩
abbrev main_call15_v1 : Ref sig .tc := ⟨.hbm, 349, rfl⟩
abbrev main_call15_v2 : Ref sig .tc := ⟨.hbm, 350, rfl⟩
abbrev main_v237 : Ref sig .tc := ⟨.hbm, 351, rfl⟩
abbrev main_v238 : Ref sig .tc := ⟨.hbm, 352, rfl⟩
abbrev main_v239 : Ref sig .tc := ⟨.hbm, 353, rfl⟩
abbrev main_c_43 : Ref sig .tc := ⟨.hbm, 354, rfl⟩
abbrev main_v240 : Ref sig .tc := ⟨.hbm, 355, rfl⟩
abbrev main_v241 : Ref sig .tc := ⟨.hbm, 356, rfl⟩
abbrev main_v242 : Ref sig .tc := ⟨.hbm, 357, rfl⟩
abbrev main_v243 : Ref sig .tc := ⟨.hbm, 358, rfl⟩
abbrev main_v244 : Ref sig .tc := ⟨.hbm, 359, rfl⟩
abbrev main_cst_44 : Ref sig .tc := ⟨.hbm, 360, rfl⟩
abbrev main_v245 : Ref sig .tc := ⟨.hbm, 361, rfl⟩
abbrev main_v246 : Ref sig .tc := ⟨.hbm, 362, rfl⟩
abbrev main_v247 : Ref sig .tc := ⟨.hbm, 363, rfl⟩
abbrev main_v248 : Ref sig .tc := ⟨.hbm, 364, rfl⟩
abbrev main_v249 : Ref sig .tc := ⟨.hbm, 365, rfl⟩
abbrev main_v250 : Ref sig .tc := ⟨.hbm, 366, rfl⟩
abbrev main_v251 : Ref sig .tc := ⟨.hbm, 367, rfl⟩
abbrev main_v252 : Ref sig .tc := ⟨.hbm, 368, rfl⟩
abbrev main_cst_45 : Ref sig .tc := ⟨.hbm, 369, rfl⟩
abbrev main_call16_v0 : Ref sig .tc := ⟨.hbm, 370, rfl⟩
abbrev main_call16_v1 : Ref sig .tc := ⟨.hbm, 371, rfl⟩
abbrev main_call16_v2 : Ref sig .tc := ⟨.hbm, 372, rfl⟩
abbrev main_v253 : Ref sig .tc := ⟨.hbm, 373, rfl⟩
abbrev main_v254 : Ref sig .tc := ⟨.hbm, 374, rfl⟩
abbrev main_v255 : Ref sig .tc := ⟨.hbm, 375, rfl⟩
abbrev main_c_46 : Ref sig .tc := ⟨.hbm, 376, rfl⟩
abbrev main_v256 : Ref sig .tc := ⟨.hbm, 377, rfl⟩
abbrev main_v257 : Ref sig .tc := ⟨.hbm, 378, rfl⟩
abbrev main_v258 : Ref sig .tc := ⟨.hbm, 379, rfl⟩
abbrev main_v259 : Ref sig .tc := ⟨.hbm, 380, rfl⟩
abbrev main_v260 : Ref sig .tc := ⟨.hbm, 381, rfl⟩
abbrev main_cst_47 : Ref sig .tc := ⟨.hbm, 382, rfl⟩
abbrev main_v261 : Ref sig .tc := ⟨.hbm, 383, rfl⟩
abbrev main_v262 : Ref sig .tc := ⟨.hbm, 384, rfl⟩
abbrev main_v263 : Ref sig .tc := ⟨.hbm, 385, rfl⟩
abbrev main_v264 : Ref sig .tc := ⟨.hbm, 386, rfl⟩
abbrev main_v265 : Ref sig .tc := ⟨.hbm, 387, rfl⟩
abbrev main_v266 : Ref sig .tc := ⟨.hbm, 388, rfl⟩
abbrev main_v267 : Ref sig .tc := ⟨.hbm, 389, rfl⟩
abbrev main_v268 : Ref sig .tc := ⟨.hbm, 390, rfl⟩
abbrev main_cst_48 : Ref sig .tc := ⟨.hbm, 391, rfl⟩
abbrev main_call17_v0 : Ref sig .tc := ⟨.hbm, 392, rfl⟩
abbrev main_call17_v1 : Ref sig .tc := ⟨.hbm, 393, rfl⟩
abbrev main_call17_v2 : Ref sig .tc := ⟨.hbm, 394, rfl⟩
abbrev main_v269 : Ref sig .tc := ⟨.hbm, 395, rfl⟩
abbrev main_v270 : Ref sig .tc := ⟨.hbm, 396, rfl⟩

abbrev nD : Nat := 1
abbrev τ : Topo := Topo.v7x

variable {F : FTy → Type} [FloatOps F]
-- ==== Proof.Ideal.Ring.lean ====
/-
# The ring of four devices, the slots of the stacked buffers, and what each buffer comes to hold

The mesh is 2×4×4 and device `c` has coordinates `(c / 16, (c / 4) % 4, c % 4)`; the kernel runs one ring of four
devices along the middle axis for each pair of outer coordinates. Here: that ring (`nxt`, `prv`), the device ids and
row offsets the kernel computes, as numbers; contents of a buffer of stacked slots given slot by slot (`stk`), and what
a load of a slot, a store to a slot and a transfer from slot to slot do to such contents; and the contents every
buffer of the kernel comes to hold, as functions of the four arguments' blocks on each device (`Inp`).
-/
module

public import proofs.«01_k».proof.Proof.Gen.KernelIdeal.Skeleton
public import proofs.«01_k».proof.Proof.Gen.KernelIdeal.Launch
public import Idealize.ShloMosaic.Lib.Pipeline.Value
public import Idealize.ShloMosaic.Lib.ValueIdxCore

@[expose] public section

noncomputable section

namespace Cert.KernelIdealProof

open Cert.KernelIdeal Cert.KernelIdeal.Gen
open Idealize.ShloMosaic Idealize.ShloMosaic.ValueIdx

variable {F : FTy → Type} [FloatOps F]

/-! ## The ring -/

set_option backward.proofsInPublic true in
/-- The device one step on along the middle axis; -/
def nxt (c : Dev nD) : Dev nD := ⟨c.val / 16 * 16 + (c.val / 4 + 1) % 4 * 4 + c.val % 4, by have := c.isLt; simp only [nD] at *; omega⟩
set_option backward.proofsInPublic true in
/-- the device one step back; -/
def prv (c : Dev nD) : Dev nD := ⟨c.val / 16 * 16 + (c.val / 4 + 3) % 4 * 4 + c.val % 4, by have := c.isLt; simp only [nD] at *; omega⟩
set_option backward.proofsInPublic true in
/-- the device of `c`'s ring at middle coordinate `o`; -/
def at_ (c : Dev nD) (o : Fin 4) : Dev nD := ⟨c.val / 16 * 16 + o.val * 4 + c.val % 4, by have := c.isLt; have := o.isLt; simp only [nD] at *; omega⟩
set_option backward.proofsInPublic true in
/-- `c`'s middle coordinate less `j`; -/
def yb (c : Dev nD) (j : ℕ) : Fin 4 := ⟨(c.val / 4 + 4 - j % 4) % 4, by omega⟩
/-- the device `j` steps back. -/
def bk : ℕ → Dev nD → Dev nD
  | 0, c => c
  | j + 1, c => bk j (prv c)

theorem prv_nxt (c : Dev nD) : prv (nxt c) = c := by revert c; decide +kernel
theorem nxt_prv (c : Dev nD) : nxt (prv c) = c := by revert c; decide +kernel
theorem nxt_ne_prv (c : Dev nD) : nxt c ≠ prv c := by revert c; decide +kernel
theorem bk_succ_nxt (j : ℕ) (c : Dev nD) : bk (j + 1) (nxt c) = bk j c := by show bk j (prv (nxt c)) = _; rw [prv_nxt]
theorem bk_eq_at (c : Dev nD) : ∀ j : Fin 4, bk j.val c = at_ c (yb c j.val) := by revert c; decide +kernel

theorem dev1_eq (c : Dev nD) : (⟨k0_dev1 c, k0_dev1_lt c⟩ : Dev nD) = prv c := Fin.ext (by revert c; decide +kernel)
theorem dev2_eq (c : Dev nD) : (⟨k0_dev2 c, k0_dev2_lt c⟩ : Dev nD) = nxt c := Fin.ext (by revert c; decide +kernel)
theorem dev3_eq (c : Dev nD) : (⟨k0_dev3 c, k0_dev3_lt c⟩ : Dev nD) = nxt c := Fin.ext (by revert c; decide +kernel)
theorem dev4_eq (c : Dev nD) : (⟨k0_dev4 c, k0_dev4_lt c⟩ : Dev nD) = nxt c := Fin.ext (by revert c; decide +kernel)
theorem dev5_eq (c : Dev nD) : (⟨k0_dev5 c, k0_dev5_lt c⟩ : Dev nD) = nxt c := Fin.ext (by revert c; decide +kernel)
theorem dev6_eq (c : Dev nD) : (⟨k0_dev6 c, k0_dev6_lt c⟩ : Dev nD) = nxt c := Fin.ext (by revert c; decide +kernel)
theorem dev7_eq (c : Dev nD) : (⟨k0_dev7 c, k0_dev7_lt c⟩ : Dev nD) = nxt c := Fin.ext (by revert c; decide +kernel)
theorem dev8_eq (c : Dev nD) : (⟨k0_dev8 c, k0_dev8_lt c⟩ : Dev nD) = nxt c := Fin.ext (by revert c; decide +kernel)
theorem dev9_eq (c : Dev nD) : (⟨k0_dev9 c, k0_dev9_lt c⟩ : Dev nD) = nxt c := Fin.ext (by revert c; decide +kernel)
theorem dev10_eq (c : Dev nD) : (⟨k0_dev10 c, k0_dev10_lt c⟩ : Dev nD) = nxt c := Fin.ext (by revert c; decide +kernel)
theorem dev11_eq (c : Dev nD) : (⟨k0_dev11 c, k0_dev11_lt c⟩ : Dev nD) = nxt c := Fin.ext (by revert c; decide +kernel)

/-- The row offsets the kernel computes: its own row block is at its middle coordinate, hop `r`'s at one more than `r` back. -/
theorem off1_eq (c : Dev nD) : k0_off1 c = ![128 * (yb c 0).val, 0] := by revert c; decide +kernel
theorem off2_eq (c : Dev nD) : k0_off2 c = ![(yb c 0).val, 0, 0] := by revert c; decide +kernel
theorem off3_0 (c : Dev nD) : k0_off3 c 0#32 = ![128 * (yb c 1).val, 0] := by revert c; decide +kernel
theorem off3_1 (c : Dev nD) : k0_off3 c 1#32 = ![128 * (yb c 2).val, 0] := by revert c; decide +kernel
theorem off3_2 (c : Dev nD) : k0_off3 c 2#32 = ![128 * (yb c 3).val, 0] := by revert c; decide +kernel
theorem off4_0 (c : Dev nD) : k0_off4 c 0#32 = ![(yb c 1).val, 0, 0] := by revert c; decide +kernel
theorem off4_1 (c : Dev nD) : k0_off4 c 1#32 = ![(yb c 2).val, 0, 0] := by revert c; decide +kernel
theorem off4_2 (c : Dev nD) : k0_off4 c 2#32 = ![(yb c 3).val, 0, 0] := by revert c; decide +kernel

/-- The four middle coordinates, each once. -/
theorem yb_cover (c : Dev nD) (o : Fin 4) : ∃ j : Fin 4, o = yb c j.val := by revert c o; decide +kernel

/-! ## Stacked slots -/

section Stack
variable {n a b : ℕ} {α : Type}

/-- Contents of a buffer of `n` stacked slots, given slot by slot. -/
def stk (v : Fin n → (⟨3, ![1, a, b]⟩ : Shape).Idx → α) : (⟨3, ![n, a, b]⟩ : Shape).Idx → α :=
  fun i => v (i 0) (ix3 (0 : Fin 1) (i 1) (i 2))

theorem inb_slot {h : ℕ} (hh : h < n) : ∀ x, (![h, 0, 0] : Fin 3 → ℕ) x + (![1, a, b] : Fin 3 → ℕ) x ≤ (![n, a, b] : Fin 3 → ℕ) x
  | ⟨0, _⟩ => hh
  | ⟨1, _⟩ => le_of_eq (Nat.zero_add a)
  | ⟨2, _⟩ => le_of_eq (Nat.zero_add b)

/-- Slot `h`'s elements. -/
abbrev slotR (n a b h : ℕ) (hh : h < n) : Rect (⟨3, ![n, a, b]⟩ : Shape) :=
  Rect.unit (s := ⟨3, ![n, a, b]⟩) ![h, 0, 0] ![1, a, b] (inb_slot hh)

theorem slot_emb {h : ℕ} (hh : h < n) (j : (⟨3, ![1, a, b]⟩ : Shape).Idx) :
    (slotR n a b h hh).emb j = ix3 (⟨h, hh⟩ : Fin n) (j 1) (j 2) := by
  funext x
  apply Fin.ext
  match x with
  | ⟨0, _⟩ =>
    show h + 1 * (j 0).val = h
    have : (j 0).val < 1 := (j 0).isLt
    omega
  | ⟨1, _⟩ => show 0 + 1 * (j 1).val = (j 1).val; omega
  | ⟨2, _⟩ => show 0 + 1 * (j 2).val = (j 2).val; omega

/-- At slot `h`'s element `j`, stacked contents are the slot's at `j`. -/
theorem stk_emb (v : Fin n → (⟨3, ![1, a, b]⟩ : Shape).Idx → α) {h : ℕ} (hh : h < n) (j : (⟨3, ![1, a, b]⟩ : Shape).Idx) :
    stk v ((slotR n a b h hh).emb j) = v ⟨h, hh⟩ j := by
  rw [slot_emb]
  show v ⟨h, hh⟩ (ix3 (0 : Fin 1) (j 1) (j 2)) = _
  congr 1
  refine (congrArg (fun k => ix3 k (j 1) (j 2)) ?_).trans (eq_ix3 j).symm
  exact Subsingleton.elim (α := Fin 1) _ _

theorem slot_disjoint (k k' : Fin n) (h : k ≠ k') : Disjoint (slotR n a b k.val k.isLt).set (slotR n a b k'.val k'.isLt).set := by
  rw [Finset.disjoint_left]
  intro i hi hi'
  have h1 := (Rect.mem_set_unit.mp hi) 0
  have h2 := (Rect.mem_set_unit.mp hi') 0
  have h1' : k.val ≤ (i 0).val ∧ (i 0).val < k.val + 1 := h1
  have h2' : k'.val ≤ (i 0).val ∧ (i 0).val < k'.val + 1 := h2
  exact h (Fin.ext (by omega))

theorem slot_cover : Finset.univ.biUnion (fun k : Fin n => (slotR n a b k.val k.isLt).set) = Finset.univ := by
  ext i
  simp only [Finset.mem_biUnion, Finset.mem_univ, true_and, iff_true]
  refine ⟨i 0, Rect.mem_set_unit.mpr fun x => ?_⟩
  match x with
  | ⟨0, _⟩ => exact ⟨le_refl _, Nat.lt_succ_self _⟩
  | ⟨1, _⟩ => exact ⟨Nat.zero_le _, lt_of_lt_of_eq (i 1).isLt (Nat.zero_add _).symm⟩
  | ⟨2, _⟩ => exact ⟨Nat.zero_le _, lt_of_lt_of_eq (i 2).isLt (Nat.zero_add _).symm⟩

end Stack

/-! ## Row blocks of a square buffer -/

/-- Row block `o` (rows `128 o` to `128 o + 127`). -/
theorem inb_rows (o : Fin 4) : ∀ x, (![128 * o.val, 0] : Fin 2 → ℕ) x + S128x512.size x ≤ S512x512.size x
  | ⟨0, _⟩ => by show 128 * o.val + 128 ≤ 512; have := o.isLt; omega
  | ⟨1, _⟩ => by show 0 + 512 ≤ 512; omega

/-- Row block `o` of contents `f`. -/
def rowsOf {α : Type} (f : S512x512.Idx → α) (o : Fin 4) : S128x512.Idx → α :=
  fun j => f (ix2 (⟨128 * o.val + (j 0).val, by have := o.isLt; have : (j 0).val < 128 := (j 0).isLt; omega⟩ : Fin 512) (j 1))

theorem rows_emb {off : Fin 2 → ℕ} (o : Fin 4) (h : off = ![128 * o.val, 0]) (inb : ∀ x, off x + S128x512.size x ≤ S512x512.size x)
    (j : S128x512.Idx) : (Rect.unit (s := S512x512) off S128x512.size inb).emb j
      = ix2 (⟨128 * o.val + (j 0).val, by have := o.isLt; have : (j 0).val < 128 := (j 0).isLt; omega⟩ : Fin 512) (j 1) := by
  subst h
  funext x
  apply Fin.ext
  match x with
  | ⟨0, _⟩ => show 128 * o.val + 1 * (j 0).val = _; rw [Nat.one_mul]
  | ⟨1, _⟩ => show 0 + 1 * (j 1).val = _; rw [Nat.one_mul, Nat.zero_add]

/-! ## What each buffer comes to hold -/

/-- The four arguments' blocks on each device, as the kernel's input buffers hold them. -/
structure Inp (F : FTy → Type) where
  X : Dev nD → Vec F S128x512 .f32
  R : Dev nD → Vec F S512x2 .f32
  W1 : Dev nD → Vec F S2x512x1024 .f32
  W2 : Dev nD → Vec F S2x1024x512 .f32

variable (m : Inp F)

/-- The gather buffers: slot `h` holds the block of the device `h` steps back. -/
def AG (c : Dev nD) : Vec F S4x128x512 .f32 := stk fun h => k0_pay2 (m.X (bk h.val c))
def RB (c : Dev nD) : Vec F S4x512x2 .f32 := stk fun h => k0_pay3 (m.R (bk h.val c))
/-- The gathered blocks in the order of the devices of the ring. -/
def XA (c : Dev nD) : Vec F S512x512 .f32 :=
  fun i => m.X (at_ c ⟨(i 0).val / 128, by have : (i 0).val < 512 := (i 0).isLt; omega⟩)
    (ix2 (⟨(i 0).val % 128, Nat.mod_lt _ (by decide)⟩ : Fin 128) (i 1))
def RA (c : Dev nD) : Vec F S4x512x2 .f32 := stk fun o => k0_pay3 (m.R (at_ c o))

/-- The `k`-th of a device's two experts' weights, as the kernel loads it. -/
def w1At (c : Dev nD) (k : Fin 2) : Vec F S1x512x1024 .f32 := fun j => m.W1 c (ix3 k (j 1) (j 2))
def w2At (c : Dev nD) (k : Fin 2) : Vec F S1x1024x512 .f32 := fun j => m.W2 c (ix3 k (j 1) (j 2))
/-- A slot of the gathered gates' weights. -/
def raAt (c : Dev nD) (o : Fin 4) : Vec F S1x512x2 .f32 := k0_pay3 (m.R (at_ c o))
/-- The device's middle coordinate, as the word the kernel computes. -/
def yw (c : Dev nD) : BitVec 32 := Scalar.remsi (Scalar.divsi (Dev.word c) 4#32) 4#32
/-- The constant 1. -/
def one32 : F .f32 := Scalar.ofBits .f32 0x3F800000#32

/-- A device's partial sum over its two experts, for all the rows of the ring. -/
def PS (c : Dev nD) : Vec F S512x512 .f32 :=
  let x := XA m c
  let p15 := k0_pay15 x (raAt m c 0) (raAt m c 1) (raAt m c 2) (raAt m c 3)
  let p16 := k0_pay16 x (raAt m c 0) (raAt m c 1) (raAt m c 2) (raAt m c 3)
  let p17 := k0_pay17 x (raAt m c 0) (raAt m c 1) (raAt m c 2) (raAt m c 3)
  let p18 := k0_pay18 x (raAt m c 0) (raAt m c 1) (raAt m c 2) (raAt m c 3)
  let p19 := k0_pay19 x (raAt m c 0) (raAt m c 1) (raAt m c 2) (raAt m c 3)
  k0_pay23 x (k0_pay21 (yw c) x p15 p16 p17 p18 p19 one32 (w1At m c 0) (w2At m c 0)) (k0_pay22 (yw c) p15 p16 p17 p18 p19 one32)
    (w1At m c 1) (w2At m c 1)

/-- What a device sends at step `s` of the scatter: a row block of its partial sum, on top of what it received at the step before. -/
def sb : (s : Fin 3) → Dev nD → Vec F S1x128x512 .f32
  | 0, c => k0_pay24 (rowsOf (PS m c) (yb c 1))
  | 1, c => k0_pay25 (rowsOf (PS m c) (yb c 2)) (k0_pay24 (rowsOf (PS m (prv c)) (yb (prv c) 1)))
  | 2, c => k0_pay26 (rowsOf (PS m c) (yb c 3))
      (k0_pay25 (rowsOf (PS m (prv c)) (yb (prv c) 2)) (k0_pay24 (rowsOf (PS m (prv (prv c))) (yb (prv (prv c)) 1))))
def SB (c : Dev nD) : Vec F S3x128x512 .f32 := stk fun s => sb m s c
def RR (c : Dev nD) : Vec F S3x128x512 .f32 := stk fun s => sb m s (prv c)
/-- The kernel's result on a device: its own row block of its partial sum, on top of the last it received. -/
def OUT (c : Dev nD) : Vec F S128x512 .f32 := k0_pay1 (rowsOf (PS m c) (yb c 0)) (sb m 2 (prv c))

/-! ## The slots of the four transfer buffers, as the kernel slices them -/

abbrev agM (h : ℕ) (hh : h < 4) : Memref sig .tc .vmem S128x512 .f32 :=
  ((Memref.whole cc0_scratch0).slice (Rect.unit (s := S4x128x512) ![h, 0, 0] S1x128x512.size (inb_slot hh)) (fun _ => rfl)).squeeze S128x512 squeezes_S1x128x512_S128x512
abbrev rbM (h : ℕ) (hh : h < 4) : Memref sig .tc .vmem S512x2 .f32 :=
  ((Memref.whole cc0_scratch1).slice (Rect.unit (s := S4x512x2) ![h, 0, 0] S1x512x2.size (inb_slot hh)) (fun _ => rfl)).squeeze S512x2 squeezes_S1x512x2_S512x2
abbrev sbM (h : ℕ) (hh : h < 3) : Memref sig .tc .vmem S128x512 .f32 :=
  ((Memref.whole cc0_scratch5).slice (Rect.unit (s := S3x128x512) ![h, 0, 0] S1x128x512.size (inb_slot hh)) (fun _ => rfl)).squeeze S128x512 squeezes_S1x128x512_S128x512
abbrev rrM (h : ℕ) (hh : h < 3) : Memref sig .tc .vmem S128x512 .f32 :=
  ((Memref.whole cc0_scratch6).slice (Rect.unit (s := S3x128x512) ![h, 0, 0] S1x128x512.size (inb_slot hh)) (fun _ => rfl)).squeeze S128x512 squeezes_S1x128x512_S128x512

theorem agM_set (h : ℕ) (hh : h < 4) : (agM h hh).view.set = (slotR 4 128 512 h hh).set := (View.set_reshape _ _).trans (View.set_slice_whole _ _)
theorem rbM_set (h : ℕ) (hh : h < 4) : (rbM h hh).view.set = (slotR 4 512 2 h hh).set := (View.set_reshape _ _).trans (View.set_slice_whole _ _)
theorem sbM_set (h : ℕ) (hh : h < 3) : (sbM h hh).view.set = (slotR 3 128 512 h hh).set := (View.set_reshape _ _).trans (View.set_slice_whole _ _)
theorem rrM_set (h : ℕ) (hh : h < 3) : (rrM h hh).view.set = (slotR 3 128 512 h hh).set := (View.set_reshape _ _).trans (View.set_slice_whole _ _)

/-- A transfer between slots turns stacked contents into stacked contents, where the two slots' contents agree. -/
theorem ag_xfer {h h' : ℕ} (hh : h < 4) (hh' : h' < 4) (v w : Fin 4 → Vec F S1x128x512 .f32) (e : w ⟨h', hh'⟩ = v ⟨h, hh⟩) (fd) :
    ∀ i ∈ (agM h' hh').view.set, (agM h' hh').view.write (Elt F) fd ((agM h hh).view.read (Elt F) (stk v)) Finset.univ i = stk w i := by
  intro i hi
  obtain ⟨j, -, rfl⟩ := Finset.mem_map.mp hi
  rw [View.write_emb_of_mem _ _ (Finset.mem_univ _)]
  exact (stk_emb v hh (Shape.reshapeEquiv _ j)).trans ((congrFun e.symm _).trans (stk_emb w hh' (Shape.reshapeEquiv _ j)).symm)
theorem rb_xfer {h h' : ℕ} (hh : h < 4) (hh' : h' < 4) (v w : Fin 4 → Vec F S1x512x2 .f32) (e : w ⟨h', hh'⟩ = v ⟨h, hh⟩) (fd) :
    ∀ i ∈ (rbM h' hh').view.set, (rbM h' hh').view.write (Elt F) fd ((rbM h hh).view.read (Elt F) (stk v)) Finset.univ i = stk w i := by
  intro i hi
  obtain ⟨j, -, rfl⟩ := Finset.mem_map.mp hi
  rw [View.write_emb_of_mem _ _ (Finset.mem_univ _)]
  exact (stk_emb v hh (Shape.reshapeEquiv _ j)).trans ((congrFun e.symm _).trans (stk_emb w hh' (Shape.reshapeEquiv _ j)).symm)
theorem rs_xfer {h h' : ℕ} (hh : h < 3) (hh' : h' < 3) (v w : Fin 3 → Vec F S1x128x512 .f32) (e : w ⟨h', hh'⟩ = v ⟨h, hh⟩) (fd) :
    ∀ i ∈ (rrM h' hh').view.set, (rrM h' hh').view.write (Elt F) fd ((sbM h hh).view.read (Elt F) (stk v)) Finset.univ i = stk w i := by
  intro i hi
  obtain ⟨j, -, rfl⟩ := Finset.mem_map.mp hi
  rw [View.write_emb_of_mem _ _ (Finset.mem_univ _)]
  exact (stk_emb v hh (Shape.reshapeEquiv _ j)).trans ((congrFun e.symm _).trans (stk_emb w hh' (Shape.reshapeEquiv _ j)).symm)

/-- A load of a slot of stacked contents reads that slot's; -/
theorem ag_load {h : ℕ} (hh : h < 4) (v : Fin 4 → Vec F S1x128x512 .f32) :
    (Memref.whole cc0_scratch0).view.readAt (Elt F) (slotR 4 128 512 h hh).toLoadRect (stk v) = v ⟨h, hh⟩ := funext fun j => stk_emb v hh j
theorem rb_load {h : ℕ} (hh : h < 4) (v : Fin 4 → Vec F S1x512x2 .f32) :
    (Memref.whole cc0_scratch1).view.readAt (Elt F) (slotR 4 512 2 h hh).toLoadRect (stk v) = v ⟨h, hh⟩ := funext fun j => stk_emb v hh j
theorem ra_load {h : ℕ} (hh : h < 4) (v : Fin 4 → Vec F S1x512x2 .f32) :
    (Memref.whole cc0_scratch3).view.readAt (Elt F) (slotR 4 512 2 h hh).toLoadRect (stk v) = v ⟨h, hh⟩ := funext fun j => stk_emb v hh j
theorem rr_load {h : ℕ} (hh : h < 3) (v : Fin 3 → Vec F S1x128x512 .f32) :
    (Memref.whole cc0_scratch6).view.readAt (Elt F) (slotR 3 128 512 h hh).toLoadRect (stk v) = v ⟨h, hh⟩ := funext fun j => stk_emb v hh j

/-- and a store to a slot of what stacked contents hold there leaves those contents on the slot. -/
theorem ag_store {h : ℕ} (hh : h < 4) (v : Fin 4 → Vec F S1x128x512 .f32) (f) (w : Vec F S1x128x512 .f32) (e : w = v ⟨h, hh⟩) :
    ∀ i ∈ (slotR 4 128 512 h hh).set, ((Memref.whole cc0_scratch0).access (slotR 4 128 512 h hh)).write (Elt F) f w Finset.univ i = stk v i := by
  intro i hi
  subst e
  rw [← Rect.map_emb_univ] at hi
  obtain ⟨j, -, rfl⟩ := Finset.mem_map.mp hi
  exact (View.write_emb_of_mem (v := (Memref.whole cc0_scratch0).access (slotR 4 128 512 h hh)) f (v ⟨h, hh⟩) (Finset.mem_univ j)).trans (stk_emb v hh j).symm
theorem rb_store {h : ℕ} (hh : h < 4) (v : Fin 4 → Vec F S1x512x2 .f32) (f) (w : Vec F S1x512x2 .f32) (e : w = v ⟨h, hh⟩) :
    ∀ i ∈ (slotR 4 512 2 h hh).set, ((Memref.whole cc0_scratch1).access (slotR 4 512 2 h hh)).write (Elt F) f w Finset.univ i = stk v i := by
  intro i hi
  subst e
  rw [← Rect.map_emb_univ] at hi
  obtain ⟨j, -, rfl⟩ := Finset.mem_map.mp hi
  exact (View.write_emb_of_mem (v := (Memref.whole cc0_scratch1).access (slotR 4 512 2 h hh)) f (v ⟨h, hh⟩) (Finset.mem_univ j)).trans (stk_emb v hh j).symm
theorem sb_store {h : ℕ} (hh : h < 3) (v : Fin 3 → Vec F S1x128x512 .f32) (f) (w : Vec F S1x128x512 .f32) (e : w = v ⟨h, hh⟩) :
    ∀ i ∈ (slotR 3 128 512 h hh).set, ((Memref.whole cc0_scratch5).access (slotR 3 128 512 h hh)).write (Elt F) f w Finset.univ i = stk v i := by
  intro i hi
  subst e
  rw [← Rect.map_emb_univ] at hi
  obtain ⟨j, -, rfl⟩ := Finset.mem_map.mp hi
  exact (View.write_emb_of_mem (v := (Memref.whole cc0_scratch5).access (slotR 3 128 512 h hh)) f (v ⟨h, hh⟩) (Finset.mem_univ j)).trans (stk_emb v hh j).symm

/-- The loads of the weights and of row blocks. -/
theorem w1_load (c : Dev nD) (k : Fin 2) :
    (Memref.whole cc0_stg2_0).view.readAt (Elt F) (slotR 2 512 1024 k.val k.isLt).toLoadRect (m.W1 c) = w1At m c k :=
  funext fun j => congrArg (m.W1 c) (slot_emb k.isLt j)
theorem w2_load (c : Dev nD) (k : Fin 2) :
    (Memref.whole cc0_stg3_0).view.readAt (Elt F) (slotR 2 1024 512 k.val k.isLt).toLoadRect (m.W2 c) = w2At m c k :=
  funext fun j => congrArg (m.W2 c) (slot_emb k.isLt j)
theorem ps_load {off : Fin 2 → ℕ} (o : Fin 4) (h : off = ![128 * o.val, 0]) (inb : ∀ x, off x + S128x512.size x ≤ S512x512.size x)
    (f : Vec F S512x512 .f32) :
    (Memref.whole cc0_scratch4).view.readAt (Elt F) (Rect.unit (s := S512x512) off S128x512.size inb).toLoadRect f = rowsOf f o :=
  funext fun j => congrArg f (rows_emb o h inb j)

/-! ## The gathered buffers, filled block by block -/

/-- The first `k` blocks gathered (those of the devices 0 to `k - 1` steps back) are in place. -/
def XAto (c : Dev nD) (k : ℕ) (f : Vec F S512x512 .f32) : Prop :=
  ∀ j, j < k → ∀ i : S512x512.Idx, (i 0).val / 128 = (yb c j).val → f i = XA m c i
def RAto (c : Dev nD) (k : ℕ) (f : Vec F S4x512x2 .f32) : Prop :=
  ∀ j, j < k → ∀ i : S4x512x2.Idx, (i 0).val = (yb c j).val → f i = RA m c i

theorem XA_block (c : Dev nD) (k : Fin 4) (j : S128x512.Idx) (w : Vec F S128x512 .f32) (hw : w = m.X (bk k.val c)) (h) :
    w j = XA m c (ix2 (⟨128 * (yb c k.val).val + (j 0).val, h⟩ : Fin 512) (j 1)) := by
  subst hw
  have hj : (j 0).val < 128 := (j 0).isLt
  unfold XA
  rw [bk_eq_at]
  have e1 : (⟨(128 * (yb c k.val).val + (j 0).val) / 128, by omega⟩ : Fin 4) = yb c k.val := Fin.ext (by show (128 * (yb c k.val).val + (j 0).val) / 128 = _; omega)
  have e2 : (⟨(128 * (yb c k.val).val + (j 0).val) % 128, Nat.mod_lt _ (by decide)⟩ : Fin 128) = j 0 := Fin.ext (by show (128 * (yb c k.val).val + (j 0).val) % 128 = (j 0).val; omega)
  show _ = m.X (at_ c (⟨(128 * (yb c k.val).val + (j 0).val) / 128, by omega⟩ : Fin 4)) (ix2 (⟨(128 * (yb c k.val).val + (j 0).val) % 128, Nat.mod_lt _ (by decide)⟩ : Fin 128) (j 1))
  rw [e1, e2]
  exact congrArg _ (eq_ix2 j)

theorem XAto_step (c : Dev nD) (k : Fin 4) {off : Fin 2 → ℕ} (h : off = ![128 * (yb c k.val).val, 0])
    (inb : ∀ x, off x + S128x512.size x ≤ S512x512.size x) (f : Vec F S512x512 .f32) (w : Vec F S128x512 .f32)
    (hf : XAto m c k.val f) (hw : w = m.X (bk k.val c)) :
    XAto m c (k.val + 1) (((Memref.whole cc0_scratch2).access (Rect.unit (s := S512x512) off S128x512.size inb)).write (Elt F) f w Finset.univ) := by
  intro j hj i hi
  by_cases hm : i ∈ (Rect.unit (s := S512x512) off S128x512.size inb).set
  · rw [← Rect.map_emb_univ] at hm
    obtain ⟨x, -, rfl⟩ := Finset.mem_map.mp hm
    refine (View.write_emb_of_mem (v := (Memref.whole cc0_scratch2).access (Rect.unit (s := S512x512) off S128x512.size inb)) f w (Finset.mem_univ x)).trans ?_
    rw [rows_emb _ h inb x]
    exact XA_block m c k x w hw _
  · rw [View.write_of_not_mem]
    · rcases Nat.lt_succ_iff_lt_or_eq.mp hj with hj' | rfl
      · exact hf j hj' i hi
      · refine absurd (Rect.mem_set_unit.mpr fun x => ?_) hm
        subst h
        match x with
        | ⟨0, _⟩ =>
          show 128 * (yb c k.val).val ≤ (i 0).val ∧ (i 0).val < 128 * (yb c k.val).val + 128
          omega
        | ⟨1, _⟩ => exact ⟨Nat.zero_le _, lt_of_lt_of_eq (i 1).isLt (Nat.zero_add _).symm⟩
    · intro hh
      exact hm ((View.set_slice_whole cc0_scratch2 _) ▸ hh)

theorem XAto_zero (c : Dev nD) (f : Vec F S512x512 .f32) : XAto m c 0 f := fun j hj => absurd hj (Nat.not_lt_zero j)
theorem XAto_four (c : Dev nD) (f : Vec F S512x512 .f32) (hf : XAto m c 4 f) : f = XA m c := by
  funext i
  obtain ⟨j, hj⟩ := yb_cover c ⟨(i 0).val / 128, by have : (i 0).val < 512 := (i 0).isLt; omega⟩
  exact hf j.val j.isLt i (congrArg Fin.val hj)

theorem inb_ra {off : Fin 3 → ℕ} (o : Fin 4) (h : off = ![o.val, 0, 0]) (inb : ∀ x, off x + S1x512x2.size x ≤ S4x512x2.size x) :
    Rect.unit (s := S4x512x2) off S1x512x2.size inb = slotR 4 512 2 o.val o.isLt := by subst h; rfl

theorem RAto_step (c : Dev nD) (k : Fin 4) {off : Fin 3 → ℕ} (h : off = ![(yb c k.val).val, 0, 0])
    (inb : ∀ x, off x + S1x512x2.size x ≤ S4x512x2.size x) (f : Vec F S4x512x2 .f32) (w : Vec F S1x512x2 .f32)
    (hf : RAto m c k.val f) (hw : w = k0_pay3 (m.R (bk k.val c))) :
    RAto m c (k.val + 1) (((Memref.whole cc0_scratch3).access (Rect.unit (s := S4x512x2) off S1x512x2.size inb)).write (Elt F) f w Finset.univ) := by
  subst h
  intro j hj i hi
  by_cases hm : i ∈ (slotR 4 512 2 (yb c k.val).val (yb c k.val).isLt).set
  · rw [← Rect.map_emb_univ] at hm
    obtain ⟨x, -, rfl⟩ := Finset.mem_map.mp hm
    refine (View.write_emb_of_mem (v := (Memref.whole cc0_scratch3).access (slotR 4 512 2 (yb c k.val).val (yb c k.val).isLt)) f w (Finset.mem_univ x)).trans ?_
    refine Eq.trans ?_ (stk_emb _ (yb c k.val).isLt x).symm
    subst hw
    exact congrArg (fun d => k0_pay3 (m.R d) x) (bk_eq_at c k)
  · rw [View.write_of_not_mem]
    · rcases Nat.lt_succ_iff_lt_or_eq.mp hj with hj' | rfl
      · exact hf j hj' i hi
      · refine absurd (Rect.mem_set_unit.mpr fun x => ?_) hm
        match x with
        | ⟨0, _⟩ =>
          show (yb c k.val).val ≤ (i 0).val ∧ (i 0).val < (yb c k.val).val + 1
          omega
        | ⟨1, _⟩ => exact ⟨Nat.zero_le _, lt_of_lt_of_eq (i 1).isLt (Nat.zero_add _).symm⟩
        | ⟨2, _⟩ => exact ⟨Nat.zero_le _, lt_of_lt_of_eq (i 2).isLt (Nat.zero_add _).symm⟩
    · intro hh
      exact hm ((View.set_slice_whole cc0_scratch3 _) ▸ hh)

theorem RAto_zero (c : Dev nD) (f : Vec F S4x512x2 .f32) : RAto m c 0 f := fun j hj => absurd hj (Nat.not_lt_zero j)
theorem RAto_four (c : Dev nD) (f : Vec F S4x512x2 .f32) (hf : RAto m c 4 f) : f = RA m c := by
  funext i
  obtain ⟨j, hj⟩ := yb_cover c (i 0)
  exact hf j.val j.isLt i (congrArg Fin.val hj)

/-! ## The payloads that only reshape -/

theorem pay4_eq (v : Vec F S128x512 .f32) : k0_pay4 v = v := by
  simp only [k0_pay4, shapeCast_self]
theorem pay6_eq (v : Vec F S512x2 .f32) : k0_pay6 (k0_pay5 v) = k0_pay3 v := by
  simp only [k0_pay6, k0_pay5, k0_pay3, shapeCast_self]
theorem pay7_eq (v : Vec F S128x512 .f32) : k0_pay7 (k0_pay2 v) = v := by
  simp only [k0_pay7, k0_pay2, shapeCast_self, shapeCast_shapeCast]
theorem pay9_eq (v : Vec F S128x512 .f32) : k0_pay9 (k0_pay2 v) = v := pay7_eq v
theorem pay11_eq (v : Vec F S128x512 .f32) : k0_pay11 (k0_pay2 v) = v := pay7_eq v
theorem pay8_eq (v : Vec F S512x2 .f32) : k0_pay8 (k0_pay3 v) = k0_pay3 v := by
  simp only [k0_pay8, k0_pay3, shapeCast_self, shapeCast_shapeCast]
theorem pay10_eq (v : Vec F S512x2 .f32) : k0_pay10 (k0_pay3 v) = k0_pay3 v := pay8_eq v
theorem pay12_eq (v : Vec F S512x2 .f32) : k0_pay12 (k0_pay3 v) = k0_pay3 v := pay8_eq v

end Cert.KernelIdealProof

end
-- ==== Proof.Ideal.Sched.lean ====
/-
# The cells of the kernel, and the schedule of what is paid into each

Every device has its runtime barrier cell and the eighteen cells of its DMA semaphores: for each of three hops of the
gather of `x` a send and a receive cell (indices `0 … 2`, `3 … 5`), the same for the gather of the gates' weights
(`6 … 8`, `9 … 11`) and for the three steps of the scatter (`12 … 14`, `15 … 17`). Each cell has one round.

A device's barrier cell is paid one unit by each ring neighbour: the device before it hands nothing, the device after it
hands its landing slots, which the transfers into that device need. A send cell is paid by the device's own transfer,
which hands the source slot back; a receive cell by the transfer of the device before, which hands the landing slot at
the contents that landed.

A device waits on its barrier cell at level 1, on the receive cells of hop `h` at level `2 + h` and on those of step `s` at
level `5 + s`, each time owing only receive cells of higher levels.
-/
module

public import proofs.«01_k».proof.Proof.Ideal.Ring
public import Idealize.ShloMosaic.Lib.Pipeline.Launch
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds (duties `Unit`) beside the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : Inp F)

/-! ## The cells -/

/-- The runtime's barrier semaphore. -/
abbrev barS : Sem sig := (SemArray.scalar (sig.barrier 0 rfl) : Sems sig S_).sem
/-- The kernel's `k`-th DMA semaphore (the first five are the argument windows'). -/
abbrev dsem (k : Fin 18) : DmaSem sig := ⟨5 + k.val, by have := k.isLt; show 5 + k.val < 23; omega⟩

abbrev barCell (c : Dev nD) : GSem nD τ sig := ((c : Thread nD τ), .reg barS)
abbrev dcell (c : Dev nD) (k : Fin 18) : GSem nD τ sig := ((c : Thread nD τ), .dma (dsem k))

/-- The kernel's own (scoped) semaphores, and all of its cells: the barrier, then these. -/
abbrev osem (k : Fin 18) : SemLoc sig := .dma (dsem k)
abbrev csem : Option (Fin 18) → SemLoc sig := fun | none => .reg barS | some k => .dma (dsem k)
abbrev kcell (ck : Dev nD × Option (Fin 18)) : GSem nD τ sig := ((ck.1 : Thread nD τ), csem ck.2)

/-- The credits of the two sizes of transfer. -/
abbrev NX : ℕ := (agM 0 (by decide)).view.dmaCredit
abbrev NR : ℕ := (rbM 0 (by decide)).view.dmaCredit
/-- The credit of DMA cell `k`'s transfer. -/
def amtD (k : ℕ) : ℕ := if 6 ≤ k ∧ k < 12 then NR else NX
/-- The credit is a function of the shape moved. -/
theorem credit_x {sp : Space} (v : View sig .tc sp S128x512 .f32) : v.dmaCredit = NX := rfl
theorem credit_r {sp : Space} (v : View sig .tc sp S512x2 .f32) : v.dmaCredit = NR := rfl
theorem amt_x (k : Fin 18) (h : ¬ (6 ≤ k.val ∧ k.val < 12)) : amtD k.val = NX := if_neg h
theorem amt_r (k : Fin 18) (h : 6 ≤ k.val ∧ k.val < 12) : amtD k.val = NR := if_pos h
theorem NX_pos : 0 < NX := View.dmaCredit_pos _ (by decide)
theorem NR_pos : 0 < NR := View.dmaCredit_pos _ (by decide)
theorem amtD_pos (k : ℕ) : 0 < amtD k := by unfold amtD; split <;> [exact NR_pos; exact NX_pos]

/-! ## The slots, held -/

def agPts (c : Dev nD) (h : ℕ) (hh : h < 4) (f : Vec F S4x128x512 .f32) : sProp 𝕄 :=
  (agM h hh).view.loc (c : Thread nD τ) ↦[(agM h hh).view.set]{fullShare} f
def rbPts (c : Dev nD) (h : ℕ) (hh : h < 4) (f : Vec F S4x512x2 .f32) : sProp 𝕄 :=
  (rbM h hh).view.loc (c : Thread nD τ) ↦[(rbM h hh).view.set]{fullShare} f
def sbPts (c : Dev nD) (h : ℕ) (hh : h < 3) (f : Vec F S3x128x512 .f32) : sProp 𝕄 :=
  (sbM h hh).view.loc (c : Thread nD τ) ↦[(sbM h hh).view.set]{fullShare} f
def rrPts (c : Dev nD) (h : ℕ) (hh : h < 3) (f : Vec F S3x128x512 .f32) : sProp 𝕄 :=
  (rrM h hh).view.loc (c : Thread nD τ) ↦[(rrM h hh).view.set]{fullShare} f

omit [FloatOps F] in
instance agPts_storable (c h hh f) : BI.Storable (upEmb : UEmb _ 𝕄) (agPts (F := F) c h hh f) := by unfold agPts; infer_instance
omit [FloatOps F] in
instance rbPts_storable (c h hh f) : BI.Storable (upEmb : UEmb _ 𝕄) (rbPts (F := F) c h hh f) := by unfold rbPts; infer_instance
omit [FloatOps F] in
instance sbPts_storable (c h hh f) : BI.Storable (upEmb : UEmb _ 𝕄) (sbPts (F := F) c h hh f) := by unfold sbPts; infer_instance
omit [FloatOps F] in
instance rrPts_storable (c h hh f) : BI.Storable (upEmb : UEmb _ 𝕄) (rrPts (F := F) c h hh f) := by unfold rrPts; infer_instance

/-- A device's landing slots, at any contents. -/
def landing (c : Dev nD) : sProp 𝕄 :=
  iprop((∃ f, agPts c 1 (by decide) f) ∗ (∃ f, agPts c 2 (by decide) f) ∗ (∃ f, agPts c 3 (by decide) f)
    ∗ (∃ f, rbPts c 1 (by decide) f) ∗ (∃ f, rbPts c 2 (by decide) f) ∗ (∃ f, rbPts c 3 (by decide) f)
    ∗ (∃ f, rrPts c 0 (by decide) f) ∗ (∃ f, rrPts c 1 (by decide) f) ∗ (∃ f, rrPts c 2 (by decide) f))

omit [FloatOps F] in
instance landing_storable (c) : BI.Storable (upEmb : UEmb _ 𝕄) (landing (F := F) c) := by unfold landing; infer_instance

/-- What the transfer paying DMA cell `k` of device `c` hands it. -/
def payD (c : Dev nD) : ℕ → sProp 𝕄
  | 0 => agPts c 0 (by decide) (AG m c)
  | 1 => agPts c 1 (by decide) (AG m c)
  | 2 => agPts c 2 (by decide) (AG m c)
  | 3 => agPts c 1 (by decide) (AG m c)
  | 4 => agPts c 2 (by decide) (AG m c)
  | 5 => agPts c 3 (by decide) (AG m c)
  | 6 => rbPts c 0 (by decide) (RB m c)
  | 7 => rbPts c 1 (by decide) (RB m c)
  | 8 => rbPts c 2 (by decide) (RB m c)
  | 9 => rbPts c 1 (by decide) (RB m c)
  | 10 => rbPts c 2 (by decide) (RB m c)
  | 11 => rbPts c 3 (by decide) (RB m c)
  | 12 => sbPts c 0 (by decide) (SB m c)
  | 13 => sbPts c 1 (by decide) (SB m c)
  | 14 => sbPts c 2 (by decide) (SB m c)
  | 15 => rrPts c 0 (by decide) (RR m c)
  | 16 => rrPts c 1 (by decide) (RR m c)
  | 17 => rrPts c 2 (by decide) (RR m c)
  | _ => iprop(emp)

instance payD_storable (c) (k : ℕ) : BI.Storable (upEmb : UEmb _ 𝕄) (payD m c k) := by
  unfold payD; split <;> infer_instance

/-! ## The schedule -/

abbrev IsBar (g : GSem nD τ sig) : Prop := g.1.2 = .tc ∧ g.2 = .reg barS
abbrev IsXfer (g : GSem nD τ sig) : Prop := g.1.2 = .tc ∧ ∃ k : Fin 18, g.2 = .dma (dsem k)

/-- The unit of a duty at a semaphore, and what it hands: by the kind of semaphore. -/
def amtS : SemLoc sig → ℕ
  | .reg _ => 1
  | .dma q => amtD (q.val - 5)
def payS (c : Dev nD) : SemLoc sig → Bool → sProp 𝕄
  | .reg _, true => landing (nxt c)
  | .reg _, false => iprop(emp)
  | .dma q, _ => payD m c (q.val - 5)

/-- One round, round 0, of every cell: a barrier cell has the duties `false` (paid by the device before) and `true` (by the
    device after), a DMA cell the duty `false`. -/
def ringRd : Rounds.Schedule (GSem nD τ sig) Bool 𝕄 where
  duties g r := if r = 0 ∧ IsBar g then Finset.univ else if r = 0 ∧ IsXfer g then {false} else ∅
  unitless _ := False
  amount g _ _ := amtS g.2
  payload g _ d := payS m g.1.1 g.2 d
  amount_pos g _ _ _ := by
    cases g.2 with
    | reg _ => exact Nat.one_pos
    | dma q => exact amtD_pos _

instance ringRd_payload_storable (g : GSem nD τ sig) (r : ℕ) (d : Bool) :
    BI.Storable (upEmb : UEmb _ 𝕄) ((ringRd m).payload g r d) := by
  show BI.Storable upEmb (payS m g.1.1 g.2 d)
  unfold payS; split <;> infer_instance

section Sched
variable (c : Dev nD) (k : Fin 18)

theorem dma_ne_bar : (SemLoc.dma (dsem k) : SemLoc sig) ≠ .reg barS := fun h => by cases h
theorem not_bar : ¬ IsBar (dcell c k) := fun h => dma_ne_bar k h.2
theorem dcell_inj {k k' : Fin 18} (h : (SemLoc.dma (dsem k) : SemLoc sig) = .dma (dsem k')) : k = k' := by
  have h1 : dsem k = dsem k' := SemLoc.dma.inj h
  have h2 : 5 + k.val = 5 + k'.val := congrArg Fin.val h1
  exact Fin.ext (by omega)

theorem duties_bar : (ringRd m).duties (barCell c) 0 = Finset.univ := by dsimp only [ringRd]; exact if_pos ⟨rfl, rfl, rfl⟩
theorem duties_d : (ringRd m).duties (dcell c k) 0 = {false} := by
  dsimp only [ringRd]; rw [if_neg (fun h => not_bar c k h.2)]; exact if_pos ⟨rfl, rfl, k, rfl⟩
theorem duties_later (g : GSem nD τ sig) : ∀ r, 1 ≤ r → (ringRd m).duties g r = ∅ :=
  fun r hr => by dsimp only [ringRd]; rw [if_neg fun h => by omega, if_neg fun h => by omega]

theorem amount_bar (d : Bool) : (ringRd m).amount (barCell c) 0 d = 1 := rfl
theorem amount_d (d : Bool) : (ringRd m).amount (dcell c k) 0 d = amtD k.val := by
  show amtD (5 + k.val - 5) = _; rw [Nat.add_sub_cancel_left]

theorem expect_bar : (ringRd m).expect (barCell c) 0 = 2 := by
  unfold Schedule.expect Schedule.amountOf
  rw [duties_bar, Finset.sum_congr rfl fun d _ => amount_bar m c d, Finset.sum_const, Finset.card_univ, Fintype.card_bool, smul_eq_mul]
theorem expect_d : (ringRd m).expect (dcell c k) 0 = amtD k.val := by
  unfold Schedule.expect Schedule.amountOf; rw [duties_d, Finset.sum_singleton, amount_d]

theorem payload_bar_true : (ringRd m).payload (barCell c) 0 true = landing (nxt c) := rfl
theorem payload_bar_false : (ringRd m).payload (barCell c) 0 false = iprop(emp) := rfl
theorem payload_d (d : Bool) : (ringRd m).payload (dcell c k) 0 d = payD m c k.val := by
  show payD m c (5 + k.val - 5) = _; rw [Nat.add_sub_cancel_left]

/-- A barrier cell's round hands nothing and the landing slots of the device after. -/
theorem rest_bar : bigSep ((ringRd m).duties (barCell c) 0 \ ∅) (fun d => (ringRd m).payload (barCell c) 0 d) = iprop(emp ∗ landing (nxt c)) := by
  rw [Finset.sdiff_empty, duties_bar, bigSep_univ_eq_bigSepL [false, true] (by decide) (by decide), bigSepL_cons_cons, bigSepL_singleton,
    payload_bar_false, payload_bar_true]
  rfl
theorem rest_d : bigSep ((ringRd m).duties (dcell c k) 0 \ ∅) (fun d => (ringRd m).payload (dcell c k) 0 d) = payD m c k.val := by
  rw [Finset.sdiff_empty, duties_d, bigSep_singleton, payload_d]

end Sched

/-! ## What each core owes; the levels -/

/-- The receive cells of the device after that a device still has to pay, listed in the order it pays them. -/
def owe (c : Dev nD) : List (Fin 18) → CellTallies nD τ sig Unit
  | [] => 0
  | k :: l => owe c l + tallyAt (dcell (nxt c) k) () (amtD k.val)
/-- All of them: for each hop `x`'s and the gates' weights', then the three steps of the scatter. -/
abbrev oweL : List (Fin 18) := [3, 9, 4, 10, 5, 11, 15, 16, 17]
/-- At launch: those, and the two neighbours' barrier cells one unit each. -/
def O₀ (c : Dev nD) : CellTallies nD τ sig Unit :=
  (owe c oweL + tallyAt (barCell (nxt c)) () 1) + tallyAt (barCell (prv c)) () 1

def L (g : GSem nD τ sig) : Finset Unit := if g.1.2 = .tc then {()} else ∅
/-- Level of the `k`-th DMA cell; -/
def lvD (k : ℕ) : ℕ :=
  if 3 ≤ k ∧ k < 6 then 2 + (k - 3) else if 9 ≤ k ∧ k < 12 then 2 + (k - 9) else if 15 ≤ k ∧ k < 18 then 5 + (k - 15) else 0
/-- of any semaphore. -/
def lvS : SemLoc sig → ℕ
  | .reg _ => 1
  | .dma q => lvD (q.val - 5)
def lv (g : GSem nD τ sig) (_ : Unit) : ℕ := lvS g.2

theorem lvS_d (k : Fin 18) : lvS (.dma (dsem k)) = lvD k.val := by show lvD (5 + k.val - 5) = _; rw [Nat.add_sub_cancel_left]
theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} : ∀ {l : List (Fin 18)} {g : GSem nD τ sig} {u : Unit}, 0 < owe c l g u → ∃ k ∈ l, g = dcell (nxt c) k
  | [], g, u, h => absurd h (by show ¬ 0 < (0 : ℕ); decide)
  | k :: l, g, u, h => by
    unfold owe at h
    rw [Pi.add_apply, Finsupp.add_apply, tallyAt_apply] at h
    by_cases hg : g = dcell (nxt c) k
    · exact ⟨k, List.mem_cons_self, hg⟩
    · rw [if_neg fun h' => hg h'.1, Nat.add_zero] at h
      obtain ⟨k', hk', e⟩ := owe_pos h
      exact ⟨k', List.mem_cons_of_mem _ hk', e⟩

/-- A wait at a level below those of all the receive cells still owed is allowed. -/
theorem mayWait (c : Dev nD) (sm : SemLoc sig) (l : List (Fin 18)) (h : ∀ k ∈ l, lvS sm < lvD k.val) :
    (levAts L lv : sProp 𝕄) ⊢ MayWait (c : Thread nD τ) sm () (owe c l) :=
  MayOwe.of_cut (L := L) (lev := lv) (lvS sm) (fun p hp => by rw [Finset.mem_singleton.mp hp, L_tc]; exact Finset.mem_singleton_self _)
    (fun g u hg => by obtain ⟨k, -, rfl⟩ := owe_pos hg; rw [L_tc]; exact Finset.mem_singleton_self _)
    (fun p hp => by rw [Finset.mem_singleton.mp hp]; exact le_refl _)
    (fun g u hg => by
      obtain ⟨k, hk, rfl⟩ := owe_pos hg
      show lvS sm < lvS (.dma (dsem k))
      rw [lvS_d]; exact h k hk)

theorem O₀_pos {c : Dev nD} {g : GSem nD τ sig} {u : Unit} (h : 0 < O₀ c g u) :
    (∃ k ∈ oweL, g = dcell (nxt c) k) ∨ g = barCell (nxt c) ∨ g = barCell (prv c) := by
  unfold O₀ at h
  rw [Pi.add_apply, Finsupp.add_apply, Pi.add_apply, Finsupp.add_apply, tallyAt_apply, tallyAt_apply] at h
  by_cases h1 : g = barCell (nxt c)
  · exact .inr (.inl h1)
  by_cases h2 : g = barCell (prv c)
  · exact .inr (.inr h2)
  rw [if_neg (fun h' => h1 h'.1), if_neg (fun h' => h2 h'.1), Nat.add_zero] at h
  exact .inl (owe_pos h)

/-- The argument windows' own waits are at level 0, below everything owed. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, -, rfl⟩ | rfl | rfl <;> exact Finset.mem_singleton_self _)
      (fun p hp => by
        rw [Finset.mem_singleton.mp hp]
        show lvD (q.val - 5) ≤ 0
        rw [show q.val - 5 = 0 by omega]; decide)
      (fun g u hg => by
        rcases O₀_pos hg with ⟨k, hk, rfl⟩ | rfl | rfl
        · show 0 < lvS (.dma (dsem k))
          rw [lvS_d]; exact (by decide : ∀ k ∈ oweL, 0 < lvD k.val) k hk
        · exact Nat.one_pos
        · exact Nat.one_pos)
  · rw [MayWait_zero]; iintro -; iempintro

/-! ## The ghost state -/

/-- The names the cells' invariants were allocated at. -/
abbrev Names : Type := Dev nD × Option (Fin 18) → ℕ

/-- Every cell's invariant, and that every cell has reached its round. -/
def records (K : Names) : sProp 𝕄 :=
  iprop((bigSep Finset.univ fun ck : Dev nD × Option (Fin 18) => cellInv ER (ringRd m) (K ck) (kcell ck))
    ∗ bigSep Finset.univ fun ck : Dev nD × Option (Fin 18) => reached ER (kcell ck) 0)

instance records_persistent (K : Names) : BI.Persistent (records m K) := by unfold records; infer_instance

theorem inv_of (K : Names) (ck : Dev nD × Option (Fin 18)) :
    (bigSep Finset.univ fun ck : Dev nD × Option (Fin 18) => (cellInv ER (ringRd m) (K ck) (kcell ck) : sProp 𝕄))
      ⊢ cellInv ER (ringRd m) (K ck) (kcell ck) :=
  bigSep_elim (Finset.mem_univ ck)
omit [FloatOps F] in
theorem reached_of (ck : Dev nD × Option (Fin 18)) :
    (bigSep Finset.univ fun ck : Dev nD × Option (Fin 18) => (reached ER (kcell ck) 0 : sProp 𝕄)) ⊢ reached ER (kcell ck) 0 :=
  bigSep_elim (Finset.mem_univ ck)

theorem inv_at (K : Names) (ck : Dev nD × Option (Fin 18)) : records m K ⊢ cellInv ER (ringRd m) (K ck) (kcell ck) := by
  unfold records; iintro ⟨H, -⟩
  iapply (inv_of m K ck); iexact H
theorem reached_at (K : Names) (ck : Dev nD × Option (Fin 18)) : records m K ⊢ reached ER (kcell ck) 0 := by
  unfold records; iintro ⟨-, H⟩
  iapply (reached_of (F := F) ck); iexact H

/-- The right to make the transfer paying send cell `ks` of `c` and receive cell `kr` of the device after; -/
def mayXfer (c : Dev nD) (ks kr : Fin 18) : sProp 𝕄 :=
  iprop(dutyTok ER (dcell c ks) 0 false ∗ dutyTok ER (dcell (nxt c) kr) 0 false ∗ atPos ER (dcell c ks) 0 ∅ 0)
/-- the right to wait on DMA cell `k` of `c`: its position and the credit; -/
def rdy (c : Dev nD) (k : Fin 18) : sProp 𝕄 :=
  iprop(atPos ER (dcell c k) 0 ∅ 0 ∗ cred (tallyAt (dcell c k) () (amtD k.val)))
/-- a cell waited on and closed: its counter is zero. -/
def done (c : Dev nD) (k : Fin 18) : sProp 𝕄 := semVal (dcell c k) 0
/-- All the rights device `c` starts with for one transfer out and the one in beside it. -/
def kit (c : Dev nD) (ks kr : Fin 18) : sProp 𝕄 := iprop(mayXfer c ks kr ∗ rdy c kr)
/-- What `c` owes, with whatever it has waited on. -/
def ow (c : Dev nD) (l : List (Fin 18)) : sProp 𝕄 := iprop(∃ W : Waits sig Unit, owes (c : Thread nD τ) (owe c l) W)

end Cert.KernelIdealProof

end
-- ==== Proof.Ideal.Steps.lean ====
/-
# The steps of the kernel's body

One lemma per kind of effect: a transfer to the device after, a wait on a DMA cell, and the loads and stores of the
kernel's buffers, each from what a device holds before the effect to what it holds after.
-/
module

public import proofs.«01_k».proof.Proof.Ideal.Sched

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Inp F)

abbrev 𝒱₀ : Variants := Variants.none

/-- Every run of the program `p` on the TensorCore of device `c` ends in `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- At the end of a part. -/
theorem WP_ret (c : Dev nD) {α : Type} {Q : α → sProp 𝕄} (a : α) : Q a ⊢ WP c (.ret a) Q := by
  show Q a ⊢ wp frame (wpE (defs₀ (F := F)) 𝒱₀ (c : Thread nD τ) none) Set.univ (.ret a) Q
  rw [wp_ret]
  iintro H
  imodintro
  iexact H

/-! ## Transfers and waits -/

/-- A transfer to the device after, paying the send cell `ks` with the source slot and the receive cell `kr` with the landing
    slot: the first receive cell of the list owed. -/
theorem wp_xfer {α : Type} {Q : α → sProp 𝕄} (K : Names) (c n : Dev nD) (hn : n = nxt c) (ks kr : Fin 18) (l : List (Fin 18)) {s : Shape} {qS qR : DmaSem sig}
    (hS : qS = dsem ks) (hR : qR = dsem kr)
    {src dst : Memref sig .tc .vmem s .f32} {hsc : dst.view.ref.isScScratch = false}
    {hsrc : src.view.WordExact} {hdst : dst.view.WordExact}
    {hsem : DmaTarget.Typed .vmem (.dma qR) (.remote (Dev.tc n : Thread nD τ) dst (.dma qS) hsc)}
    {k : PUnit → Prog (TpuEff nD τ sig (Elt F) Λ₀ .tc) α}
    (fs : Buf (Elt F) (src.view.loc (c : Thread nD τ))) (fd : Buf (Elt F) (dst.view.loc (nxt c : Thread nD τ)))
    (hks : dst.view.dmaCredit = amtD ks.val) (hkr : dst.view.dmaCredit = amtD kr.val)
    (hpay₁ : (src.view.loc (c : Thread nD τ) ↦[src.view.set]{fullShare} fs) ⊢ payD m c ks.val)
    (hpay₂ : (dst.view.loc (nxt c : Thread nD τ) ↦[dst.view.set]{fullShare} (dst.view.write (Elt F) fd (src.view.read (Elt F) fs) Finset.univ))
      ⊢ payD m (nxt c) kr.val) :
    iprop(records m K ∗ (src.view.loc (c : Thread nD τ) ↦[src.view.set]{fullShare} fs)
        ∗ (dst.view.loc (nxt c : Thread nD τ) ↦[dst.view.set]{fullShare} fd) ∗ mayXfer c ks kr ∗ ow c (kr :: l))
      ⊢ iprop(((rdy c ks ∗ ow c l) -∗ WP c (k ⟨⟩) Q)
          -∗ WP c (.op (.enqueueDma src (.remote (Dev.tc n : Thread nD τ) dst (.dma qS) hsc) (.dma qR) hsrc hdst hsem) k) Q) := by
  subst hn hS hR
  unfold mayXfer ow rdy
  iintro ⟨#Hrec, Hs, Hd, ⟨HtS, HtR, Hat⟩, ⟨%W, HO⟩⟩
  ihave #HIs := (inv_at m K (c, some ks)) $$ Hrec
  ihave #HIr := (inv_at m K (nxt c, some kr)) $$ Hrec
  ihave #Hrs := (reached_at m K (c, some ks)) $$ Hrec
  ihave #Hrr := (reached_at m K (nxt c, some kr)) $$ Hrec
  iintro Hk
  iapply (Rounds.wp_send_pointsTo 𝒱₀ ER (ringRd m) (c : Thread nD τ) none (c' := (nxt c : Thread nD τ)) (sS := .dma (dsem ks)) (sem := .dma (dsem kr)) (κ₁ := K (c, some ks)) (κ₂ := K (nxt c, some kr))
    (r₁ := 0) (r₂ := 0) (d₁ := false) (d₂ := false) (fs := fs) (fd := fd)
    (by rw [duties_d]; exact Finset.mem_singleton_self _) (by rw [duties_d]; exact Finset.mem_singleton_self _)
    () () (amtD ks.val) hks (amount_d m c ks false) ((amount_d m (nxt c) kr false).trans (hkr.symm.trans hks)) (owe c l)
    (show owe c l + tallyAt (dcell (nxt c) kr) () (amtD kr.val) = _ by rw [← hkr, hks]) (W := W)
    (by rw [payload_d]; exact hpay₁) (by rw [payload_d]; exact hpay₂)) $$ [Hs Hd HtS HtR HO]
  · isplitr; · iexact HIs
    isplitr; · iexact HIr
    isplitl [Hs]; · iexact Hs
    isplitl [Hd]; · iexact Hd
    isplitl [HO]; · iexact HO
    isplitl [HtS]; · iexact HtS
    isplitr; · iexact Hrs
    isplitl [HtR]; · iexact HtR
    iexact Hrr
  iintro ⟨Hc, HO⟩
  iapply Hk
  isplitl [Hat Hc]
  · isplitl [Hat]; · iexact Hat
    iexact Hc
  iexists W; iexact HO

/-- A wait on DMA cell `kk`: what its transfer paid comes with it, and the cell is closed. -/
theorem wp_dwait {α : Type} {Q : α → sProp 𝕄} (K : Names) (c : Dev nD) (kk : Fin 18) (l : List (Fin 18)) {s : Shape} {q : DmaSem sig} (hq : q = dsem kk)
    (P : sProp 𝕄) (hP : payD m c kk.val = P)
    {src dst : Memref sig .tc .vmem s .f32} {hsrc : src.view.WordExact} {hdst : dst.view.WordExact}
    {k : PUnit → Prog (TpuEff nD τ sig (Elt F) Λ₀ .tc) α}
    (hk : dst.view.dmaCredit = amtD kk.val) (hl : ∀ j ∈ l, lvD kk.val < lvD j.val) :
    iprop(records m K ∗ levAts L lv ∗ rdy c kk ∗ ow c l)
      ⊢ iprop(((P ∗ done c kk ∗ ow c l) -∗ WP c (k ⟨⟩) Q)
          -∗ WP c (.op (.waitDma2 q src dst hsrc hdst) k) Q) := by
  subst hq hP
  unfold ow rdy done
  iintro ⟨#Hrec, #Hlev, ⟨Hat, Hc⟩, ⟨%W, HO⟩⟩
  ihave #HI := (inv_at m K (c, some kk)) $$ Hrec
  iintro Hk
  iapply (Rounds.wp_wait_rest_token 𝒱₀ ER (ringRd m) (c : Thread nD τ) none (κ := K (c, some kk))
      (wpE_waitDma2_eq 𝒱₀ (c : Thread nD τ) none Set.univ) (Set.mem_univ _) () (O := owe c l) (W := W) (R := 0) (m := 0) (T := ∅)
      (by rw [Nat.zero_add, expect_d]; exact hk)) $$ [Hat Hc HO]
  · isplitr; · iexact HI
    isplitl [Hc]; · rw [hk]; iexact Hc
    isplitl [HO]; · iexact HO
    isplitr; · iapply (mayWait c (.dma (dsem kk)) l (by rw [lvS_d]; exact hl)); iexact Hlev
    iexact Hat
  iintro ⟨HO, Hat, -, Hp⟩
  ihave Hp := (Entails.of_eq (rest_d m c kk)) $$ Hp
  imod (Rounds.cell_close ER (ringRd m) (Set.mem_univ (K (c, some kk))) (fun h => h) (R := 0 + 1) (duties_later m (dcell c kk))) $$ [Hat] with Hz
  · isplitr; · iexact HI
    iexact Hat
  iapply Hk
  isplitl [Hp]; · iexact Hp
  isplitl [Hz]; · iexact Hz
  iexists _; iexact HO

/-! ## Loads and stores -/

/-- Buffer `b` of device `c`, whole, at contents `f`. -/
abbrev whl (c : Dev nD) (b : Ref sig .tc) (f : Buf (Elt F) ((c : Thread nD τ).loc b)) : sProp 𝕄 := ((c : Thread nD τ).loc b) ↦{fullShare} f

theorem agPts_eq (c : Dev nD) (h : ℕ) (hh : h < 4) (f : Vec F S4x128x512 .f32) :
    agPts c h hh f = ((c : Thread nD τ).loc cc0_scratch0 ↦[(slotR 4 128 512 h hh).set]{fullShare} f : sProp 𝕄) := by
  unfold agPts; rw [agM_set]
theorem rbPts_eq (c : Dev nD) (h : ℕ) (hh : h < 4) (f : Vec F S4x512x2 .f32) :
    rbPts c h hh f = ((c : Thread nD τ).loc cc0_scratch1 ↦[(slotR 4 512 2 h hh).set]{fullShare} f : sProp 𝕄) := by
  unfold rbPts; rw [rbM_set]
theorem sbPts_eq (c : Dev nD) (h : ℕ) (hh : h < 3) (f : Vec F S3x128x512 .f32) :
    sbPts c h hh f = ((c : Thread nD τ).loc cc0_scratch5 ↦[(slotR 3 128 512 h hh).set]{fullShare} f : sProp 𝕄) := by
  unfold sbPts; rw [sbM_set]
theorem rrPts_eq (c : Dev nD) (h : ℕ) (hh : h < 3) (f : Vec F S3x128x512 .f32) :
    rrPts c h hh f = ((c : Thread nD τ).loc cc0_scratch6 ↦[(slotR 3 128 512 h hh).set]{fullShare} f : sProp 𝕄) := by
  unfold rrPts; rw [rrM_set]

theorem load_set (b : Ref sig .tc) (r : Rect b.ty.shape) : (Memref.whole b).view.setOn r.toLoadRect.set ⊆ r.set := by
  intro i hi
  obtain ⟨j, hj, rfl⟩ := Finset.mem_map.mp hi
  exact hj

/-- A load from a slot that is held; -/
theorem wp_ag_load {α : Type} {Q : α → sProp 𝕄} (c : Dev nD) (h : ℕ) (hh : h < 4) (f : Vec F S4x128x512 .f32) {hl}
    {k : Vec F S1x128x512 .f32 → Prog (TpuEff nD τ sig (Elt F) Λ₀ .tc) α} :
    agPts c h hh f ⊢ iprop((agPts c h hh f -∗ WP c (k ((Memref.whole cc0_scratch0).view.readAt (Elt F) (slotR 4 128 512 h hh).toLoadRect f)) Q)
      -∗ WP c (.op (.load (Memref.whole cc0_scratch0) (slotR 4 128 512 h hh).toLoadRect hl) k) Q) := by
  rw [agPts_eq]
  exact wp_load 𝒱₀ (c : Thread nD τ) none Set.univ (m := Memref.whole cc0_scratch0) (r := (slotR 4 128 512 h hh).toLoadRect)
    (load_set cc0_scratch0 (slotR 4 128 512 h hh))
theorem wp_rb_load {α : Type} {Q : α → sProp 𝕄} (c : Dev nD) (h : ℕ) (hh : h < 4) (f : Vec F S4x512x2 .f32) {hl}
    {k : Vec F S1x512x2 .f32 → Prog (TpuEff nD τ sig (Elt F) Λ₀ .tc) α} :
    rbPts c h hh f ⊢ iprop((rbPts c h hh f -∗ WP c (k ((Memref.whole cc0_scratch1).view.readAt (Elt F) (slotR 4 512 2 h hh).toLoadRect f)) Q)
      -∗ WP c (.op (.load (Memref.whole cc0_scratch1) (slotR 4 512 2 h hh).toLoadRect hl) k) Q) := by
  rw [rbPts_eq]
  exact wp_load 𝒱₀ (c : Thread nD τ) none Set.univ (m := Memref.whole cc0_scratch1) (r := (slotR 4 512 2 h hh).toLoadRect)
    (load_set cc0_scratch1 (slotR 4 512 2 h hh))
theorem wp_sb_load {α : Type} {Q : α → sProp 𝕄} (c : Dev nD) (h : ℕ) (hh : h < 3) (f : Vec F S3x128x512 .f32) {hl}
    {k : Vec F S1x128x512 .f32 → Prog (TpuEff nD τ sig (Elt F) Λ₀ .tc) α} :
    sbPts c h hh f ⊢ iprop((sbPts c h hh f -∗ WP c (k ((Memref.whole cc0_scratch5).view.readAt (Elt F) (slotR 3 128 512 h hh).toLoadRect f)) Q)
      -∗ WP c (.op (.load (Memref.whole cc0_scratch5) (slotR 3 128 512 h hh).toLoadRect hl) k) Q) := by
  rw [sbPts_eq]
  exact wp_load 𝒱₀ (c : Thread nD τ) none Set.univ (m := Memref.whole cc0_scratch5) (r := (slotR 3 128 512 h hh).toLoadRect)
    (load_set cc0_scratch5 (slotR 3 128 512 h hh))
theorem wp_rr_load {α : Type} {Q : α → sProp 𝕄} (c : Dev nD) (h : ℕ) (hh : h < 3) (f : Vec F S3x128x512 .f32) {hl}
    {k : Vec F S1x128x512 .f32 → Prog (TpuEff nD τ sig (Elt F) Λ₀ .tc) α} :
    rrPts c h hh f ⊢ iprop((rrPts c h hh f -∗ WP c (k ((Memref.whole cc0_scratch6).view.readAt (Elt F) (slotR 3 128 512 h hh).toLoadRect f)) Q)
      -∗ WP c (.op (.load (Memref.whole cc0_scratch6) (slotR 3 128 512 h hh).toLoadRect hl) k) Q) := by
  rw [rrPts_eq]
  exact wp_load 𝒱₀ (c : Thread nD τ) none Set.univ (m := Memref.whole cc0_scratch6) (r := (slotR 3 128 512 h hh).toLoadRect)
    (load_set cc0_scratch6 (slotR 3 128 512 h hh))
/-- a store to it of what it is to hold. -/
theorem wp_ag_store {α : Type} {Q : α → sProp 𝕄} (c : Dev nD) (h : ℕ) (hh : h < 4) (f : Vec F S4x128x512 .f32) (w : Vec F S1x128x512 .f32)
    (hw : w = k0_pay2 (m.X (bk h c))) {hs hm} {k : PUnit → Prog (TpuEff nD τ sig (Elt F) Λ₀ .tc) α} :
    agPts c h hh f ⊢ iprop((agPts c h hh (AG m c) -∗ WP c (k ⟨⟩) Q)
      -∗ WP c (.op (.store (Memref.whole cc0_scratch0) (slotR 4 128 512 h hh) w Finset.univ hs hm) k) Q) := by
  rw [agPts_eq, agPts_eq]
  have e := pointsTo_congr (Ix := Unit) (Name := ℕ) (U := UU) (Lvl := ℕ) (ℓ := (c : Thread nD τ).loc cc0_scratch0) (q := fullShare) (ag_store hh (fun h => k0_pay2 (m.X (bk h.val c))) f w hw)
  unfold AG
  rw [← e]
  exact wp_store 𝒱₀ (c : Thread nD τ) none Set.univ (m := Memref.whole cc0_scratch0) (r := slotR 4 128 512 h hh) (w := w) (Mk := Finset.univ)
    (k := k) (Q := Q) (hx := hs) (hm := hm) (f := f) (S := (slotR 4 128 512 h hh).set) (View.set_slice_whole cc0_scratch0 (slotR 4 128 512 h hh)).subset
theorem wp_rb_store {α : Type} {Q : α → sProp 𝕄} (c : Dev nD) (h : ℕ) (hh : h < 4) (f : Vec F S4x512x2 .f32) (w : Vec F S1x512x2 .f32)
    (hw : w = k0_pay3 (m.R (bk h c))) {hs hm} {k : PUnit → Prog (TpuEff nD τ sig (Elt F) Λ₀ .tc) α} :
    rbPts c h hh f ⊢ iprop((rbPts c h hh (RB m c) -∗ WP c (k ⟨⟩) Q)
      -∗ WP c (.op (.store (Memref.whole cc0_scratch1) (slotR 4 512 2 h hh) w Finset.univ hs hm) k) Q) := by
  rw [rbPts_eq, rbPts_eq]
  have e := pointsTo_congr (Ix := Unit) (Name := ℕ) (U := UU) (Lvl := ℕ) (ℓ := (c : Thread nD τ).loc cc0_scratch1) (q := fullShare) (rb_store hh (fun h => k0_pay3 (m.R (bk h.val c))) f w hw)
  unfold RB
  rw [← e]
  exact wp_store 𝒱₀ (c : Thread nD τ) none Set.univ (m := Memref.whole cc0_scratch1) (r := slotR 4 512 2 h hh) (w := w) (Mk := Finset.univ)
    (k := k) (Q := Q) (hx := hs) (hm := hm) (f := f) (S := (slotR 4 512 2 h hh).set) (View.set_slice_whole cc0_scratch1 (slotR 4 512 2 h hh)).subset
theorem wp_sb_store {α : Type} {Q : α → sProp 𝕄} (c : Dev nD) (h : ℕ) (hh : h < 3) (f : Vec F S3x128x512 .f32) (w : Vec F S1x128x512 .f32)
    (hw : w = sb m ⟨h, hh⟩ c) {hs hm} {k : PUnit → Prog (TpuEff nD τ sig (Elt F) Λ₀ .tc) α} :
    sbPts c h hh f ⊢ iprop((sbPts c h hh (SB m c) -∗ WP c (k ⟨⟩) Q)
      -∗ WP c (.op (.store (Memref.whole cc0_scratch5) (slotR 3 128 512 h hh) w Finset.univ hs hm) k) Q) := by
  rw [sbPts_eq, sbPts_eq]
  have e := pointsTo_congr (Ix := Unit) (Name := ℕ) (U := UU) (Lvl := ℕ) (ℓ := (c : Thread nD τ).loc cc0_scratch5) (q := fullShare) (sb_store hh (fun s => sb m s c) f w hw)
  unfold SB
  rw [← e]
  exact wp_store 𝒱₀ (c : Thread nD τ) none Set.univ (m := Memref.whole cc0_scratch5) (r := slotR 3 128 512 h hh) (w := w) (Mk := Finset.univ)
    (k := k) (Q := Q) (hx := hs) (hm := hm) (f := f) (S := (slotR 3 128 512 h hh).set) (View.set_slice_whole cc0_scratch5 (slotR 3 128 512 h hh)).subset

/-- What the loads of the slots' final contents read. -/
theorem AG_load (c : Dev nD) (h : ℕ) (hh : h < 4) :
    (Memref.whole cc0_scratch0).view.readAt (Elt F) (slotR 4 128 512 h hh).toLoadRect (AG m c) = k0_pay2 (m.X (bk h c)) := ag_load hh _
theorem RB_load (c : Dev nD) (h : ℕ) (hh : h < 4) :
    (Memref.whole cc0_scratch1).view.readAt (Elt F) (slotR 4 512 2 h hh).toLoadRect (RB m c) = k0_pay3 (m.R (bk h c)) := rb_load hh _
theorem RR_load (c : Dev nD) (h : ℕ) (hh : h < 3) :
    (Memref.whole cc0_scratch6).view.readAt (Elt F) (slotR 3 128 512 h hh).toLoadRect (RR m c) = sb m ⟨h, hh⟩ (prv c) := rr_load hh _
theorem RA_load (c : Dev nD) (o : Fin 4) :
    (Memref.whole cc0_scratch3).view.readAt (Elt F) (slotR 4 512 2 o.val o.isLt).toLoadRect (RA m c) = raAt m c o := ra_load o.isLt _

/-- The gathered `x` with its first `k` blocks in place, and the gathered gates' weights. -/
def xaPts (c : Dev nD) (k : ℕ) : sProp 𝕄 := iprop(∃ f : Vec F S512x512 .f32, ⌜XAto m c k f⌝ ∗ whl c cc0_scratch2 f)
def raPts (c : Dev nD) (k : ℕ) : sProp 𝕄 := iprop(∃ f : Vec F S4x512x2 .f32, ⌜RAto m c k f⌝ ∗ whl c cc0_scratch3 f)

/-- The store of the block `k` steps back, after a load of what was there. -/
theorem wp_xa_store {α : Type} {Q : α → sProp 𝕄} (c : Dev nD) (k : ℕ) (hk : k < 4) {off : Fin 2 → ℕ} (h : off = ![128 * (yb c k).val, 0])
    {inb : ∀ x, off x + S128x512.size x ≤ S512x512.size x} (w : Vec F S128x512 .f32) (hw : w = m.X (bk k c)) {hs hm}
    {p : PUnit → Prog (TpuEff nD τ sig (Elt F) Λ₀ .tc) α} :
    xaPts m c k ⊢ iprop((xaPts m c (k + 1) -∗ WP c (p ⟨⟩) Q)
      -∗ WP c (.op (.store (Memref.whole cc0_scratch2) (Rect.unit (s := S512x512) off S128x512.size inb) w Finset.univ hs hm) p) Q) := by
  unfold xaPts
  iintro ⟨%f, %hf, Hp⟩ Hk
  iapply (wp_store 𝒱₀ (c : Thread nD τ) none Set.univ (m := Memref.whole cc0_scratch2) (r := Rect.unit (s := S512x512) off S128x512.size inb)
    (Mk := Finset.univ) (S := Finset.univ) (f := f) (Finset.subset_univ _)) $$ Hp
  iintro Hp
  iapply Hk
  iexists _
  isplitr
  · ipureintro; exact XAto_step m c ⟨k, hk⟩ h inb f w hf hw
  iexact Hp
theorem wp_xa_load {α : Type} {Q : α → sProp 𝕄} (c : Dev nD) (k : ℕ) {r : LoadRect S512x512} {hl}
    {p : (r.shape.Idx → Elt F .f32) → Prog (TpuEff nD τ sig (Elt F) Λ₀ .tc) α} :
    xaPts m c k ⊢ iprop((∀ v, xaPts m c k -∗ WP c (p v) Q) -∗ WP c (.op (.load (Memref.whole cc0_scratch2) r hl) p) Q) := by
  unfold xaPts
  iintro ⟨%f, %hf, Hp⟩ Hk
  iapply (wp_load 𝒱₀ (c : Thread nD τ) none Set.univ (m := Memref.whole cc0_scratch2) (r := r) (S := Finset.univ) (f := f) (Finset.subset_univ _)) $$ Hp
  iintro Hp
  iapply Hk
  iexists f
  isplitr
  · ipureintro; exact hf
  iexact Hp
theorem wp_ra_store {α : Type} {Q : α → sProp 𝕄} (c : Dev nD) (k : ℕ) (hk : k < 4) {off : Fin 3 → ℕ} (h : off = ![(yb c k).val, 0, 0])
    {inb : ∀ x, off x + S1x512x2.size x ≤ S4x512x2.size x} (w : Vec F S1x512x2 .f32) (hw : w = k0_pay3 (m.R (bk k c))) {hs hm}
    {p : PUnit → Prog (TpuEff nD τ sig (Elt F) Λ₀ .tc) α} :
    raPts m c k ⊢ iprop((raPts m c (k + 1) -∗ WP c (p ⟨⟩) Q)
      -∗ WP c (.op (.store (Memref.whole cc0_scratch3) (Rect.unit (s := S4x512x2) off S1x512x2.size inb) w Finset.univ hs hm) p) Q) := by
  unfold raPts
  iintro ⟨%f, %hf, Hp⟩ Hk
  iapply (wp_store 𝒱₀ (c : Thread nD τ) none Set.univ (m := Memref.whole cc0_scratch3) (r := Rect.unit (s := S4x512x2) off S1x512x2.size inb)
    (Mk := Finset.univ) (S := Finset.univ) (f := f) (Finset.subset_univ _)) $$ Hp
  iintro Hp
  iapply Hk
  iexists _
  isplitr
  · ipureintro; exact RAto_step m c ⟨k, hk⟩ h inb f w hf hw
  iexact Hp
theorem wp_ra_load {α : Type} {Q : α → sProp 𝕄} (c : Dev nD) (k : ℕ) {r : LoadRect S4x512x2} {hl}
    {p : (r.shape.Idx → Elt F .f32) → Prog (TpuEff nD τ sig (Elt F) Λ₀ .tc) α} :
    raPts m c k ⊢ iprop((∀ v, raPts m c k -∗ WP c (p v) Q) -∗ WP c (.op (.load (Memref.whole cc0_scratch3) r hl) p) Q) := by
  unfold raPts
  iintro ⟨%f, %hf, Hp⟩ Hk
  iapply (wp_load 𝒱₀ (c : Thread nD τ) none Set.univ (m := Memref.whole cc0_scratch3) (r := r) (S := Finset.univ) (f := f) (Finset.subset_univ _)) $$ Hp
  iintro Hp
  iapply Hk
  iexists f
  isplitr
  · ipureintro; exact hf
  iexact Hp
/-- All blocks in place: the whole buffers. -/
theorem xaPts_four (c : Dev nD) : xaPts m c 4 ⊢ whl c cc0_scratch2 (XA m c) := by
  unfold xaPts
  iintro ⟨%f, %hf, Hp⟩
  obtain rfl := XAto_four m c f hf
  iexact Hp
theorem raPts_four (c : Dev nD) : raPts m c 4 ⊢ whl c cc0_scratch3 (RA m c) := by
  unfold raPts
  iintro ⟨%f, %hf, Hp⟩
  obtain rfl := RAto_four m c f hf
  iexact Hp

/-! ## The semaphores of the kernel's arrays -/

theorem sem0_eq : (((cc0_scratch7 : DmaSems sig S3).slice (Rect.unit (s := S3) ![0] S1.size inb_S3_S1_0)).squeeze S_ squeezes_S1_S_).sem = dsem 0 := rfl
theorem sem1_eq : (((cc0_scratch7 : DmaSems sig S3).slice (Rect.unit (s := S3) ![1] S1.size inb_S3_S1_1)).squeeze S_ squeezes_S1_S_).sem = dsem 1 := rfl
theorem sem2_eq : (((cc0_scratch7 : DmaSems sig S3).slice (Rect.unit (s := S3) ![2] S1.size inb_S3_S1_2)).squeeze S_ squeezes_S1_S_).sem = dsem 2 := rfl
theorem sem3_eq : (((cc0_scratch8 : DmaSems sig S3).slice (Rect.unit (s := S3) ![0] S1.size inb_S3_S1_0)).squeeze S_ squeezes_S1_S_).sem = dsem 3 := rfl
theorem sem4_eq : (((cc0_scratch8 : DmaSems sig S3).slice (Rect.unit (s := S3) ![1] S1.size inb_S3_S1_1)).squeeze S_ squeezes_S1_S_).sem = dsem 4 := rfl
theorem sem5_eq : (((cc0_scratch8 : DmaSems sig S3).slice (Rect.unit (s := S3) ![2] S1.size inb_S3_S1_2)).squeeze S_ squeezes_S1_S_).sem = dsem 5 := rfl
theorem sem6_eq : (((cc0_scratch9 : DmaSems sig S3).slice (Rect.unit (s := S3) ![0] S1.size inb_S3_S1_0)).squeeze S_ squeezes_S1_S_).sem = dsem 6 := rfl
theorem sem7_eq : (((cc0_scratch9 : DmaSems sig S3).slice (Rect.unit (s := S3) ![1] S1.size inb_S3_S1_1)).squeeze S_ squeezes_S1_S_).sem = dsem 7 := rfl
theorem sem8_eq : (((cc0_scratch9 : DmaSems sig S3).slice (Rect.unit (s := S3) ![2] S1.size inb_S3_S1_2)).squeeze S_ squeezes_S1_S_).sem = dsem 8 := rfl
theorem sem9_eq : (((cc0_scratch10 : DmaSems sig S3).slice (Rect.unit (s := S3) ![0] S1.size inb_S3_S1_0)).squeeze S_ squeezes_S1_S_).sem = dsem 9 := rfl
theorem sem10_eq : (((cc0_scratch10 : DmaSems sig S3).slice (Rect.unit (s := S3) ![1] S1.size inb_S3_S1_1)).squeeze S_ squeezes_S1_S_).sem = dsem 10 := rfl
theorem sem11_eq : (((cc0_scratch10 : DmaSems sig S3).slice (Rect.unit (s := S3) ![2] S1.size inb_S3_S1_2)).squeeze S_ squeezes_S1_S_).sem = dsem 11 := rfl
theorem sem12_eq : (((cc0_scratch11 : DmaSems sig S3).slice (Rect.unit (s := S3) ![0] S1.size inb_S3_S1_0)).squeeze S_ squeezes_S1_S_).sem = dsem 12 := rfl
theorem sem13_eq : (((cc0_scratch11 : DmaSems sig S3).slice (Rect.unit (s := S3) ![1] S1.size inb_S3_S1_1)).squeeze S_ squeezes_S1_S_).sem = dsem 13 := rfl
theorem sem14_eq : (((cc0_scratch11 : DmaSems sig S3).slice (Rect.unit (s := S3) ![2] S1.size inb_S3_S1_2)).squeeze S_ squeezes_S1_S_).sem = dsem 14 := rfl
theorem sem15_eq : (((cc0_scratch12 : DmaSems sig S3).slice (Rect.unit (s := S3) ![0] S1.size inb_S3_S1_0)).squeeze S_ squeezes_S1_S_).sem = dsem 15 := rfl
theorem sem16_eq : (((cc0_scratch12 : DmaSems sig S3).slice (Rect.unit (s := S3) ![1] S1.size inb_S3_S1_1)).squeeze S_ squeezes_S1_S_).sem = dsem 16 := rfl
theorem sem17_eq : (((cc0_scratch12 : DmaSems sig S3).slice (Rect.unit (s := S3) ![2] S1.size inb_S3_S1_2)).squeeze S_ squeezes_S1_S_).sem = dsem 17 := rfl

end Cert.KernelIdealProof

end
-- ==== Proof.Ideal.Body.lean ====
/-
# The kernel's body, part by part

What each part of the body does to what a device holds, in program order, and from that what the whole body does: from the
staged inputs, the scratch buffers and the ring's ghost state to the output's staging buffer at the device's result, with
every cell closed.
-/
module

public import proofs.«01_k».proof.Proof.Ideal.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : Inp F) (K : Names) (c : Dev nD)

/-! ## The three kinds of transfer -/

/-- Slot `h` of the gather of `x` to slot `h + 1` of the device after; -/
theorem wp_ag_xfer {α : Type} {Q : α → sProp 𝕄} (n : Dev nD) (hn : n = nxt c) (h h' : ℕ) (hh' : h' = h + 1) (hh : h < 4) (h4 : h' < 4)
    (ks kr : Fin 18) (l : List (Fin 18)) {qS qR : DmaSem sig} (hS : qS = dsem ks) (hR : qR = dsem kr)
    (e₁ : payD m c ks.val = agPts c h hh (AG m c)) (e₂ : payD m (nxt c) kr.val = agPts (nxt c) h' h4 (AG m (nxt c)))
    (a₁ : amtD ks.val = NX) (a₂ : amtD kr.val = NX)
    {hsc : (agM h' h4).view.ref.isScScratch = false} {hsrc : (agM h hh).view.WordExact} {hdst : (agM h' h4).view.WordExact}
    {hsem : DmaTarget.Typed .vmem (.dma qR) (.remote (Dev.tc n : Thread nD τ) (agM h' h4) (.dma qS) hsc)}
    {k : PUnit → Prog (TpuEff nD τ sig (Elt F) Λ₀ .tc) α} :
    iprop(records m K ∗ agPts c h hh (AG m c) ∗ (∃ f, agPts (nxt c) h' h4 f) ∗ mayXfer c ks kr ∗ ow c (kr :: l))
      ⊢ iprop(((rdy c ks ∗ ow c l) -∗ WP c (k ⟨⟩) Q)
          -∗ WP c (.op (.enqueueDma (agM h hh) (.remote (Dev.tc n : Thread nD τ) (agM h' h4) (.dma qS) hsc) (.dma qR) hsrc hdst hsem) k) Q) := by
  iintro ⟨#Hrec, Hs, ⟨%fd, Hd⟩, Hm, HO⟩
  iapply (wp_xfer m K c n hn ks kr l hS hR (src := agM h hh) (dst := agM h' h4) (AG m c) fd ((credit_x _).trans a₁.symm) ((credit_x _).trans a₂.symm)
    (by rw [e₁]; exact BI.Entails.refl _)
    (by
      rw [e₂]; unfold agPts
      exact (Entails.of_eq (pointsTo_congr (ℓ := (agM h' h4).view.loc (nxt c : Thread nD τ)) (ag_xfer hh h4 (fun h => k0_pay2 (m.X (bk h.val c))) (fun h => k0_pay2 (m.X (bk h.val (nxt c)))) (by subst hh'; show k0_pay2 (m.X (bk (h + 1) (nxt c))) = _; rw [bk_succ_nxt]) fd)))))
  isplitr; · iexact Hrec
  isplitl [Hs]; · unfold agPts; iexact Hs
  isplitl [Hd]; · unfold agPts; iexact Hd
  isplitl [Hm]; · iexact Hm
  iexact HO

/-- of the gather of the gates' weights; -/
theorem wp_rb_xfer {α : Type} {Q : α → sProp 𝕄} (n : Dev nD) (hn : n = nxt c) (h h' : ℕ) (hh' : h' = h + 1) (hh : h < 4) (h4 : h' < 4)
    (ks kr : Fin 18) (l : List (Fin 18)) {qS qR : DmaSem sig} (hS : qS = dsem ks) (hR : qR = dsem kr)
    (e₁ : payD m c ks.val = rbPts c h hh (RB m c)) (e₂ : payD m (nxt c) kr.val = rbPts (nxt c) h' h4 (RB m (nxt c)))
    (a₁ : amtD ks.val = NR) (a₂ : amtD kr.val = NR)
    {hsc : (rbM h' h4).view.ref.isScScratch = false} {hsrc : (rbM h hh).view.WordExact} {hdst : (rbM h' h4).view.WordExact}
    {hsem : DmaTarget.Typed .vmem (.dma qR) (.remote (Dev.tc n : Thread nD τ) (rbM h' h4) (.dma qS) hsc)}
    {k : PUnit → Prog (TpuEff nD τ sig (Elt F) Λ₀ .tc) α} :
    iprop(records m K ∗ rbPts c h hh (RB m c) ∗ (∃ f, rbPts (nxt c) h' h4 f) ∗ mayXfer c ks kr ∗ ow c (kr :: l))
      ⊢ iprop(((rdy c ks ∗ ow c l) -∗ WP c (k ⟨⟩) Q)
          -∗ WP c (.op (.enqueueDma (rbM h hh) (.remote (Dev.tc n : Thread nD τ) (rbM h' h4) (.dma qS) hsc) (.dma qR) hsrc hdst hsem) k) Q) := by
  iintro ⟨#Hrec, Hs, ⟨%fd, Hd⟩, Hm, HO⟩
  iapply (wp_xfer m K c n hn ks kr l hS hR (src := rbM h hh) (dst := rbM h' h4) (RB m c) fd ((credit_r _).trans a₁.symm) ((credit_r _).trans a₂.symm)
    (by rw [e₁]; exact BI.Entails.refl _)
    (by
      rw [e₂]; unfold rbPts
      exact (Entails.of_eq (pointsTo_congr (ℓ := (rbM h' h4).view.loc (nxt c : Thread nD τ)) (rb_xfer hh h4 (fun h => k0_pay3 (m.R (bk h.val c))) (fun h => k0_pay3 (m.R (bk h.val (nxt c)))) (by subst hh'; show k0_pay3 (m.R (bk (h + 1) (nxt c))) = _; rw [bk_succ_nxt]) fd)))))
  isplitr; · iexact Hrec
  isplitl [Hs]; · unfold rbPts; iexact Hs
  isplitl [Hd]; · unfold rbPts; iexact Hd
  isplitl [Hm]; · iexact Hm
  iexact HO

/-- and slot `h` of what is sent in the scatter to slot `h` of what the device after receives. -/
theorem wp_rs_xfer {α : Type} {Q : α → sProp 𝕄} (n : Dev nD) (hn : n = nxt c) (h : ℕ) (hh : h < 3)
    (ks kr : Fin 18) (l : List (Fin 18)) {qS qR : DmaSem sig} (hS : qS = dsem ks) (hR : qR = dsem kr)
    (e₁ : payD m c ks.val = sbPts c h hh (SB m c)) (e₂ : payD m (nxt c) kr.val = rrPts (nxt c) h hh (RR m (nxt c)))
    (a₁ : amtD ks.val = NX) (a₂ : amtD kr.val = NX)
    {hsc : (rrM h hh).view.ref.isScScratch = false} {hsrc : (sbM h hh).view.WordExact} {hdst : (rrM h hh).view.WordExact}
    {hsem : DmaTarget.Typed .vmem (.dma qR) (.remote (Dev.tc n : Thread nD τ) (rrM h hh) (.dma qS) hsc)}
    {k : PUnit → Prog (TpuEff nD τ sig (Elt F) Λ₀ .tc) α} :
    iprop(records m K ∗ sbPts c h hh (SB m c) ∗ (∃ f, rrPts (nxt c) h hh f) ∗ mayXfer c ks kr ∗ ow c (kr :: l))
      ⊢ iprop(((rdy c ks ∗ ow c l) -∗ WP c (k ⟨⟩) Q)
          -∗ WP c (.op (.enqueueDma (sbM h hh) (.remote (Dev.tc n : Thread nD τ) (rrM h hh) (.dma qS) hsc) (.dma qR) hsrc hdst hsem) k) Q) := by
  iintro ⟨#Hrec, Hs, ⟨%fd, Hd⟩, Hm, HO⟩
  iapply (wp_xfer m K c n hn ks kr l hS hR (src := sbM h hh) (dst := rrM h hh) (SB m c) fd ((credit_x _).trans a₁.symm) ((credit_x _).trans a₂.symm)
    (by rw [e₁]; exact BI.Entails.refl _)
    (by
      rw [e₂]; unfold rrPts
      exact (Entails.of_eq (pointsTo_congr (ℓ := (rrM h hh).view.loc (nxt c : Thread nD τ)) (rs_xfer hh hh (fun s => sb m s c) (fun s => sb m s (prv (nxt c))) (by show sb m _ (prv (nxt c)) = _; rw [prv_nxt]) fd)))))
  isplitr; · iexact Hrec
  isplitl [Hs]; · unfold sbPts; iexact Hs
  isplitl [Hd]; · unfold rrPts; iexact Hd
  isplitl [Hm]; · iexact Hm
  iexact HO

/-! ## The parts at the kernel's buffers -/

abbrev pt1 := k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt2 := k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt3 := k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt4 := k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt5 := k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt6 := k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt7 := k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt8 := k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt9 := k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt10 := k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt11 := k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt12 := k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt13 := k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt14 := k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt15 := k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt16 := k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt17 := k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt18 := k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev pt19 := k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12
abbrev ptBody := cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12

theorem hz2 : (![0, 0] : Fin 2 → Nat) = fun _ => 0 := funext fun a => by fin_cases a <;> rfl

/-- A store of a whole buffer leaves what is stored; a load of one reads what it holds. -/
theorem ps_write (f w : Vec F S512x512 .f32) :
    View.write (Elt F) ((Memref.whole cc0_scratch4).access (Rect.unit (s := S512x512) ![0, 0] S512x512.size inb_S512x512_S512x512_0_0)) f w Finset.univ = w :=
  Memref.write_access_unit_zero_univ (Elt F) cc0_scratch4 hz2 _ f w
theorem out_write (f w : Vec F S128x512 .f32) :
    View.write (Elt F) ((Memref.whole cc0_stg4_0).access (Rect.unit (s := S128x512) ![0, 0] S128x512.size inb_S128x512_S128x512_0_0)) f w Finset.univ = w :=
  Memref.write_access_unit_zero_univ (Elt F) cc0_stg4_0 hz2 _ f w
theorem x_read (f : Vec F S128x512 .f32) :
    (Memref.whole cc0_stg0_0).view.readAt (Elt F) (Rect.unit (s := S128x512) ![0, 0] S128x512.size inb_S128x512_S128x512_0_0).toLoadRect f = f :=
  Memref.readAt_unit_zero (Elt F) cc0_stg0_0 hz2 _ f
theorem xa_read (f : Vec F S512x512 .f32) :
    (Memref.whole cc0_scratch2).view.readAt (Elt F) (Rect.unit (s := S512x512) ![0, 0] S512x512.size inb_S512x512_S512x512_0_0).toLoadRect f = f :=
  Memref.readAt_unit_zero (Elt F) cc0_scratch2 hz2 _ f
theorem r_read (f : Vec F S512x2 .f32) :
    (Memref.whole cc0_stg1_0).view.readAt (Elt F) (Rect.unit (s := S512x2) ![0, 0] S512x2.size inb_S512x2_S512x2_0_0).toLoadRect f = f :=
  Memref.readAt_unit_zero (Elt F) cc0_stg1_0 hz2 _ f

/-! ## The parts -/

/-- The device's id and the words computed from it. -/
theorem part1 {Q : (Σ' (d0 : Dev nD) (v2 : BitVec 32) (v5 : BitVec 32) (v8 : BitVec 32) (v19 : BitVec 32) (v31 : BitVec 32) (v32 : Sems sig S_), BitVec 32) → sProp 𝕄} :
    iprop(∀ v5 v8 v19 v31 v34, Q ⟨c, yw c, v5, v8, v19, v31, SemArray.scalar (sig.barrier 0 rfl), v34⟩) ⊢ WP c pt1 Q := by
  unfold pt1; rw [k0_part1_eq_skeleton]; unfold k0_part1_skel WP
  simp only [Prog.lift, Prog.bind_op, Prog.bind_ret, Prog.pure_eq_ret, wp_deviceId]
  unfold yw
  iintro H
  iapply WP_ret
  iapply H

/-- The entry barrier, and the device's own blocks put in place. -/
theorem part2 {Q : FVec F S512x2 .f32 → sProp 𝕄} (v2 v5 v8 v19 v31 v34 : BitVec 32) :
    iprop(records m K ∗ levAts L lv ∗ (∃ W : Waits sig Unit, owes (c : Thread nD τ) (O₀ c) W) ∗ atPos ER (barCell c) 0 ∅ 0 ∗ cred (tallyAt (barCell c) () 2)
        ∗ dutyTok ER (barCell (nxt c)) 0 false ∗ dutyTok ER (barCell (prv c)) 0 true ∗ landing c
        ∗ whl c cc0_stg0_0 (m.X c) ∗ whl c cc0_stg1_0 (m.R c) ∗ (∃ f, agPts c 0 (by decide) f) ∗ (∃ f, rbPts c 0 (by decide) f) ∗ xaPts m c 0
        ∗ ((semVal (barCell c) 0 ∗ landing (nxt c) ∗ whl c cc0_stg0_0 (m.X c) ∗ whl c cc0_stg1_0 (m.R c)
            ∗ agPts c 0 (by decide) (AG m c) ∗ rbPts c 0 (by decide) (RB m c) ∗ xaPts m c 1 ∗ ow c oweL) -∗ Q (k0_pay5 (m.R c))))
      ⊢ WP c (pt2 c v2 v5 v8 v19 v31 (SemArray.scalar (sig.barrier 0 rfl)) v34) Q := by
  unfold pt2; rw [k0_part2_eq_skeleton]; unfold k0_part2_skel WP
  simp only [semSignalWord, semWaitWord, Prog.lift, Prog.bind_op, Prog.bind_ret, Prog.pure_eq_ret]
  iintro ⟨#Hrec, #Hlev, ⟨%W, HO⟩, Hat, Hc, HtN, HtP, Hland, X, R, ⟨%fa, A0⟩, ⟨%fb, B0⟩, xa0, Hk⟩
  ihave #HIb := (inv_at m K (c, none)) $$ Hrec
  ihave #HIn := (inv_at m K (nxt c, none)) $$ Hrec
  ihave #HIp := (inv_at m K (prv c, none)) $$ Hrec
  ihave #Hrn := (reached_at m K (nxt c, none)) $$ Hrec
  ihave #Hrp := (reached_at m K (prv c, none)) $$ Hrec
  simp only [dev1_eq c, dev2_eq c]
  unfold O₀
  iapply (Rounds.wp_signal 𝒱₀ ER (ringRd m) (c : Thread nD τ) none (dst := (prv c : Thread nD τ)) (κ := K (prv c, none))
      (d := true) (by rw [duties_bar]; exact Finset.mem_univ _) ((amount_bar m (prv c) true).trans (by decide)) () (owe c oweL + tallyAt (barCell (nxt c)) () 1) rfl)
    $$ [HO HtP Hland]
  · isplitr; · iexact HIp
    isplitl [HO]; · iexact HO
    isplitl [HtP]; · iexact HtP
    isplitl [Hland]; · rw [payload_bar_true, nxt_prv]; iexact Hland
    iexact Hrp
  iintro HO
  iapply (Rounds.wp_signal 𝒱₀ ER (ringRd m) (c : Thread nD τ) none (dst := (nxt c : Thread nD τ)) (κ := K (nxt c, none))
      (d := false) (by rw [duties_bar]; exact Finset.mem_univ _) ((amount_bar m (nxt c) false).trans (by decide)) () (owe c oweL) rfl)
    $$ [HO HtN]
  · isplitr; · iexact HIn
    isplitl [HO]; · iexact HO
    isplitl [HtN]; · iexact HtN
    isplitr; · rw [payload_bar_false]; iempintro
    iexact Hrn
  iintro HO
  iapply (Rounds.wp_wait_rest_token 𝒱₀ ER (ringRd m) (c : Thread nD τ) none (κ := K (c, none))
      (wpE_semWait_eq 𝒱₀ (c : Thread nD τ) none Set.univ) (Set.mem_univ _) () (O := owe c oweL) (W := W) (R := 0) (m := 0) (T := ∅)
      (by rw [expect_bar]; decide)) $$ [Hc HO Hat]
  · isplitr; · iexact HIb
    isplitl [Hc]; · iexact Hc
    isplitl [HO]; · iexact HO
    isplitr; · iapply (mayWait c (.reg barS) oweL (by decide)); iexact Hlev
    iexact Hat
  iintro ⟨HO, Hat, -, Hp⟩
  ihave Hp := (Entails.of_eq (rest_bar m c)) $$ Hp
  icases Hp with ⟨-, Hland⟩
  imod (Rounds.cell_close ER (ringRd m) (Set.mem_univ (K (c, none))) (fun h => h) (R := 0 + 1) (duties_later m (barCell c))) $$ [Hat] with Hz
  · isplitr; · iexact HIb
    iexact Hat
  iapply (wp_load 𝒱₀ (c : Thread nD τ) none Set.univ (m := Memref.whole cc0_stg0_0) (S := Finset.univ) (f := m.X c) (Finset.subset_univ _)) $$ X
  iintro X
  rw [x_read]
  iapply (wp_ag_load c 0 _ fa) $$ A0
  iintro A0
  iapply (wp_ag_store m c 0 _ fa _ rfl) $$ A0
  iintro A0
  iapply (wp_load 𝒱₀ (c : Thread nD τ) none Set.univ (m := Memref.whole cc0_stg1_0) (S := Finset.univ) (f := m.R c) (Finset.subset_univ _)) $$ R
  iintro R
  rw [r_read]
  iapply (wp_rb_load c 0 _ fb) $$ B0
  iintro B0
  iapply (wp_rb_store m c 0 _ fb _ rfl) $$ B0
  iintro B0
  iapply (wp_load 𝒱₀ (c : Thread nD τ) none Set.univ (m := Memref.whole cc0_stg0_0) (S := Finset.univ) (f := m.X c) (Finset.subset_univ _)) $$ X
  iintro X
  rw [x_read]
  iapply (wp_xa_load m c 0) $$ xa0
  iintro %_ xa0
  iapply (wp_xa_store m c 0 (by decide) (off1_eq c) _ (pay4_eq _)) $$ xa0
  iintro xa1
  iapply (wp_load 𝒱₀ (c : Thread nD τ) none Set.univ (m := Memref.whole cc0_stg1_0) (S := Finset.univ) (f := m.R c) (Finset.subset_univ _)) $$ R
  iintro R
  rw [r_read]
  iapply WP_ret
  iapply Hk
  isplitl [Hz]; · iexact Hz
  isplitl [Hland]; · iexact Hland
  isplitl [X]; · iexact X
  isplitl [R]; · iexact R
  isplitl [A0]; · iexact A0
  isplitl [B0]; · iexact B0
  isplitl [xa1]; · iexact xa1
  unfold ow
  iexists _; iexact HO

/-- The first hop: the own row of gates' weights put in place, and the own block of `x` sent. -/
theorem part3 {Q : PUnit → sProp 𝕄} (v2 v5 v8 v19 : BitVec 32) :
    iprop(records m K ∗ levAts L lv ∗ raPts m c 0 ∗ agPts c 0 (by decide) (AG m c) ∗ (∃ f, agPts (nxt c) 1 (by decide) f) ∗ mayXfer c 0 3 ∗ ow c [3, 9, 4, 10, 5, 11, 15, 16, 17]
        ∗ ((raPts m c 1 ∗ rdy c 0 ∗ ow c [9, 4, 10, 5, 11, 15, 16, 17]) -∗ Q ⟨⟩))
      ⊢ WP c (pt3 c v2 v5 v8 v19 (k0_pay5 (m.R c))) Q := by
  unfold pt3; rw [k0_part3_eq_skeleton]; unfold k0_part3_skel
  simp only [Prog.lift, Prog.bind_op, Prog.bind_ret, Prog.pure_eq_ret]
  iintro ⟨#Hrec, #Hlev, ra0, A0, Na1, M0, HO, Hk⟩
  iapply (wp_ra_load m c 0) $$ ra0
  iintro %_ ra0
  iapply (wp_ra_store m c 0 (by decide) (off2_eq c) _ (pay6_eq _)) $$ ra0
  iintro ra1
  iapply (wp_ag_xfer m K c _ (dev3_eq c) 0 1 rfl (by decide) (by decide) 0 3 [9, 4, 10, 5, 11, 15, 16, 17] sem0_eq sem3_eq rfl rfl (amt_x 0 (by decide)) (amt_x 3 (by decide))) $$ [A0 Na1 M0 HO]
  · isplitr; · iexact Hrec
    isplitl [A0]; · iexact A0
    isplitl [Na1]; · iexact Na1
    isplitl [M0]; · iexact M0
    iexact HO
  iintro ⟨R0, HO⟩
  iapply WP_ret
  iapply Hk
  isplitl [ra1]; · iexact ra1
  isplitl [R0]; · iexact R0
  iexact HO

theorem part4 {Q : PUnit → sProp 𝕄} (v5 v8 v19 : BitVec 32) :
    iprop(records m K ∗ levAts L lv ∗ rbPts c 0 (by decide) (RB m c) ∗ (∃ f, rbPts (nxt c) 1 (by decide) f) ∗ mayXfer c 6 9 ∗ rdy c 0 ∗ rdy c 3 ∗ ow c [9, 4, 10, 5, 11, 15, 16, 17]
        ∗ ((agPts c 0 (by decide) (AG m c) ∗ done c 0 ∗ agPts c 1 (by decide) (AG m c) ∗ done c 3 ∗ rbPts c 0 (by decide) (RB m c) ∗ done c 6 ∗ ow c [4, 10, 5, 11, 15, 16, 17]) -∗ Q ⟨⟩))
      ⊢ WP c (pt4 c v5 v8 v19) Q := by
  unfold pt4; rw [k0_part4_eq_skeleton]; unfold k0_part4_skel
  simp only [Prog.lift, Prog.bind_op, Prog.bind_ret, Prog.pure_eq_ret]
  iintro ⟨#Hrec, #Hlev, B0, Nb1, M6, R0, R3, HO, Hk⟩
  iapply (wp_rb_xfer m K c _ (dev4_eq c) 0 1 rfl (by decide) (by decide) 6 9 [4, 10, 5, 11, 15, 16, 17] sem6_eq sem9_eq rfl rfl (amt_r 6 (by decide)) (amt_r 9 (by decide))) $$ [B0 Nb1 M6 HO]
  · isplitr; · iexact Hrec
    isplitl [B0]; · iexact B0
    isplitl [Nb1]; · iexact Nb1
    isplitl [M6]; · iexact M6
    iexact HO
  iintro ⟨R6, HO⟩
  iapply (wp_dwait m K c 0 [4, 10, 5, 11, 15, 16, 17] sem0_eq (agPts c 0 (by decide) (AG m c)) rfl ((credit_x _).trans (amt_x 0 (by decide)).symm) (by decide)) $$ [R0 HO]
  · isplitr; · iexact Hrec
    isplitr; · iexact Hlev
    isplitl [R0]; · iexact R0
    iexact HO
  iintro ⟨A0, D0, HO⟩
  iapply (wp_dwait m K c 3 [4, 10, 5, 11, 15, 16, 17] sem3_eq (agPts c 1 (by decide) (AG m c)) rfl ((credit_x _).trans (amt_x 3 (by decide)).symm) (by decide)) $$ [R3 HO]
  · isplitr; · iexact Hrec
    isplitr; · iexact Hlev
    isplitl [R3]; · iexact R3
    iexact HO
  iintro ⟨A1, D3, HO⟩
  iapply (wp_dwait m K c 6 [4, 10, 5, 11, 15, 16, 17] sem6_eq (rbPts c 0 (by decide) (RB m c)) rfl ((credit_r _).trans (amt_r 6 (by decide)).symm) (by decide)) $$ [R6 HO]
  · isplitr; · iexact Hrec
    isplitr; · iexact Hlev
    isplitl [R6]; · iexact R6
    iexact HO
  iintro ⟨B0, D6, HO⟩
  iapply WP_ret
  iapply Hk
  isplitl [A0]; · iexact A0
  isplitl [D0]; · iexact D0
  isplitl [A1]; · iexact A1
  isplitl [D3]; · iexact D3
  isplitl [B0]; · iexact B0
  isplitl [D6]; · iexact D6
  iexact HO

theorem part5 {Q : BitVec 32 → sProp 𝕄} (v2 v5 v8 v19 : BitVec 32) :
    iprop(records m K ∗ levAts L lv ∗ rdy c 9 ∗ agPts c 1 (by decide) (AG m c) ∗ xaPts m c 1 ∗ ow c [4, 10, 5, 11, 15, 16, 17]
        ∗ (∀ v, (rbPts c 1 (by decide) (RB m c) ∗ done c 9 ∗ agPts c 1 (by decide) (AG m c) ∗ xaPts m c 2 ∗ ow c [4, 10, 5, 11, 15, 16, 17]) -∗ Q v))
      ⊢ WP c (pt5 c v2 v5 v8 v19) Q := by
  unfold pt5; rw [k0_part5_eq_skeleton]; unfold k0_part5_skel
  simp only [Prog.lift, Prog.bind_op, Prog.bind_ret, Prog.pure_eq_ret]
  iintro ⟨#Hrec, #Hlev, R9, A1, xa1, HO, Hk⟩
  iapply (wp_dwait m K c 9 [4, 10, 5, 11, 15, 16, 17] sem9_eq (rbPts c 1 (by decide) (RB m c)) rfl ((credit_r _).trans (amt_r 9 (by decide)).symm) (by decide)) $$ [R9 HO]
  · isplitr; · iexact Hrec
    isplitr; · iexact Hlev
    isplitl [R9]; · iexact R9
    iexact HO
  iintro ⟨B1, D9, HO⟩
  iapply (wp_ag_load c 1 _ (AG m c)) $$ A1
  iintro A1
  rw [AG_load m c 1]
  iapply (wp_xa_load m c 1) $$ xa1
  iintro %_ xa1
  iapply (wp_xa_store m c 1 (by decide) (off3_0 c) _ (pay7_eq _)) $$ xa1
  iintro xa2
  iapply WP_ret
  iapply Hk
  isplitl [B1]; · iexact B1
  isplitl [D9]; · iexact D9
  isplitl [A1]; · iexact A1
  isplitl [xa2]; · iexact xa2
  iexact HO

/-- The second hop. -/
theorem part6 {Q : PUnit → sProp 𝕄} (v5 v8 v19 v144 : BitVec 32) :
    iprop(records m K ∗ levAts L lv ∗ rbPts c 1 (by decide) (RB m c) ∗ raPts m c 1 ∗ agPts c 1 (by decide) (AG m c) ∗ (∃ f, agPts (nxt c) 2 (by decide) f) ∗ mayXfer c 1 4 ∗ ow c [4, 10, 5, 11, 15, 16, 17]
        ∗ ((rbPts c 1 (by decide) (RB m c) ∗ raPts m c 2 ∗ rdy c 1 ∗ ow c [10, 5, 11, 15, 16, 17]) -∗ Q ⟨⟩))
      ⊢ WP c (pt6 c v5 v8 v19 v144) Q := by
  unfold pt6; rw [k0_part6_eq_skeleton]; unfold k0_part6_skel
  simp only [Prog.lift, Prog.bind_op, Prog.bind_ret, Prog.pure_eq_ret]
  iintro ⟨#Hrec, #Hlev, B1, ra1, A1, Na2, M1, HO, Hk⟩
  iapply (wp_rb_load c 1 _ (RB m c)) $$ B1
  iintro B1
  rw [RB_load m c 1]
  iapply (wp_ra_load m c 1) $$ ra1
  iintro %_ ra1
  iapply (wp_ra_store m c 1 (by decide) (off4_0 c) _ (pay8_eq _)) $$ ra1
  iintro ra2
  iapply (wp_ag_xfer m K c _ (dev5_eq c) 1 2 rfl (by decide) (by decide) 1 4 [10, 5, 11, 15, 16, 17] sem1_eq sem4_eq rfl rfl (amt_x 1 (by decide)) (amt_x 4 (by decide))) $$ [A1 Na2 M1 HO]
  · isplitr; · iexact Hrec
    isplitl [A1]; · iexact A1
    isplitl [Na2]; · iexact Na2
    isplitl [M1]; · iexact M1
    iexact HO
  iintro ⟨R1, HO⟩
  iapply WP_ret
  iapply Hk
  isplitl [B1]; · iexact B1
  isplitl [ra2]; · iexact ra2
  isplitl [R1]; · iexact R1
  iexact HO

theorem part7 {Q : PUnit → sProp 𝕄} (v5 v8 v19 : BitVec 32) :
    iprop(records m K ∗ levAts L lv ∗ rbPts c 1 (by decide) (RB m c) ∗ (∃ f, rbPts (nxt c) 2 (by decide) f) ∗ mayXfer c 7 10 ∗ rdy c 1 ∗ rdy c 4 ∗ ow c [10, 5, 11, 15, 16, 17]
        ∗ ((agPts c 1 (by decide) (AG m c) ∗ done c 1 ∗ agPts c 2 (by decide) (AG m c) ∗ done c 4 ∗ rdy c 7 ∗ ow c [5, 11, 15, 16, 17]) -∗ Q ⟨⟩))
      ⊢ WP c (pt7 c v5 v8 v19) Q := by
  unfold pt7; rw [k0_part7_eq_skeleton]; unfold k0_part7_skel
  simp only [Prog.lift, Prog.bind_op, Prog.bind_ret, Prog.pure_eq_ret]
  iintro ⟨#Hrec, #Hlev, B1, Nb2, M7, R1, R4, HO, Hk⟩
  iapply (wp_rb_xfer m K c _ (dev6_eq c) 1 2 rfl (by decide) (by decide) 7 10 [5, 11, 15, 16, 17] sem7_eq sem10_eq rfl rfl (amt_r 7 (by decide)) (amt_r 10 (by decide))) $$ [B1 Nb2 M7 HO]
  · isplitr; · iexact Hrec
    isplitl [B1]; · iexact B1
    isplitl [Nb2]; · iexact Nb2
    isplitl [M7]; · iexact M7
    iexact HO
  iintro ⟨R7, HO⟩
  iapply (wp_dwait m K c 1 [5, 11, 15, 16, 17] sem1_eq (agPts c 1 (by decide) (AG m c)) rfl ((credit_x _).trans (amt_x 1 (by decide)).symm) (by decide)) $$ [R1 HO]
  · isplitr; · iexact Hrec
    isplitr; · iexact Hlev
    isplitl [R1]; · iexact R1
    iexact HO
  iintro ⟨A1, D1, HO⟩
  iapply (wp_dwait m K c 4 [5, 11, 15, 16, 17] sem4_eq (agPts c 2 (by decide) (AG m c)) rfl ((credit_x _).trans (amt_x 4 (by decide)).symm) (by decide)) $$ [R4 HO]
  · isplitr; · iexact Hrec
    isplitr; · iexact Hlev
    isplitl [R4]; · iexact R4
    iexact HO
  iintro ⟨A2, D4, HO⟩
  iapply WP_ret
  iapply Hk
  isplitl [A1]; · iexact A1
  isplitl [D1]; · iexact D1
  isplitl [A2]; · iexact A2
  isplitl [D4]; · iexact D4
  isplitl [R7]; · iexact R7
  iexact HO

theorem part8 {Q : BitVec 32 → sProp 𝕄} (v2 v5 v8 v19 : BitVec 32) :
    iprop(records m K ∗ levAts L lv ∗ rdy c 7 ∗ rdy c 10 ∗ agPts c 2 (by decide) (AG m c) ∗ xaPts m c 2 ∗ ow c [5, 11, 15, 16, 17]
        ∗ (∀ v, (rbPts c 1 (by decide) (RB m c) ∗ done c 7 ∗ rbPts c 2 (by decide) (RB m c) ∗ done c 10 ∗ agPts c 2 (by decide) (AG m c) ∗ xaPts m c 3 ∗ ow c [5, 11, 15, 16, 17]) -∗ Q v))
      ⊢ WP c (pt8 c v2 v5 v8 v19) Q := by
  unfold pt8; rw [k0_part8_eq_skeleton]; unfold k0_part8_skel
  simp only [Prog.lift, Prog.bind_op, Prog.bind_ret, Prog.pure_eq_ret]
  iintro ⟨#Hrec, #Hlev, R7, R10, A2, xa2, HO, Hk⟩
  iapply (wp_dwait m K c 7 [5, 11, 15, 16, 17] sem7_eq (rbPts c 1 (by decide) (RB m c)) rfl ((credit_r _).trans (amt_r 7 (by decide)).symm) (by decide)) $$ [R7 HO]
  · isplitr; · iexact Hrec
    isplitr; · iexact Hlev
    isplitl [R7]; · iexact R7
    iexact HO
  iintro ⟨B1, D7, HO⟩
  iapply (wp_dwait m K c 10 [5, 11, 15, 16, 17] sem10_eq (rbPts c 2 (by decide) (RB m c)) rfl ((credit_r _).trans (amt_r 10 (by decide)).symm) (by decide)) $$ [R10 HO]
  · isplitr; · iexact Hrec
    isplitr; · iexact Hlev
    isplitl [R10]; · iexact R10
    iexact HO
  iintro ⟨B2, D10, HO⟩
  iapply (wp_ag_load c 2 _ (AG m c)) $$ A2
  iintro A2
  rw [AG_load m c 2]
  iapply (wp_xa_load m c 2) $$ xa2
  iintro %_ xa2
  iapply (wp_xa_store m c 2 (by decide) (off3_1 c) _ (pay9_eq _)) $$ xa2
  iintro xa3
  iapply WP_ret
  iapply Hk
  isplitl [B1]; · iexact B1
  isplitl [D7]; · iexact D7
  isplitl [B2]; · iexact B2
  isplitl [D10]; · iexact D10
  isplitl [A2]; · iexact A2
  isplitl [xa3]; · iexact xa3
  iexact HO

/-- The third hop. -/
theorem part9 {Q : PUnit → sProp 𝕄} (v5 v8 v19 v234 : BitVec 32) :
    iprop(records m K ∗ levAts L lv ∗ rbPts c 2 (by decide) (RB m c) ∗ raPts m c 2 ∗ agPts c 2 (by decide) (AG m c) ∗ (∃ f, agPts (nxt c) 3 (by decide) f) ∗ mayXfer c 2 5 ∗ ow c [5, 11, 15, 16, 17]
        ∗ ((rbPts c 2 (by decide) (RB m c) ∗ raPts m c 3 ∗ rdy c 2 ∗ ow c [11, 15, 16, 17]) -∗ Q ⟨⟩))
      ⊢ WP c (pt9 c v5 v8 v19 v234) Q := by
  unfold pt9; rw [k0_part9_eq_skeleton]; unfold k0_part9_skel
  simp only [Prog.lift, Prog.bind_op, Prog.bind_ret, Prog.pure_eq_ret]
  iintro ⟨#Hrec, #Hlev, B2, ra2, A2, Na3, M2, HO, Hk⟩
  iapply (wp_rb_load c 2 _ (RB m c)) $$ B2
  iintro B2
  rw [RB_load m c 2]
  iapply (wp_ra_load m c 2) $$ ra2
  iintro %_ ra2
  iapply (wp_ra_store m c 2 (by decide) (off4_1 c) _ (pay10_eq _)) $$ ra2
  iintro ra3
  iapply (wp_ag_xfer m K c _ (dev7_eq c) 2 3 rfl (by decide) (by decide) 2 5 [11, 15, 16, 17] sem2_eq sem5_eq rfl rfl (amt_x 2 (by decide)) (amt_x 5 (by decide))) $$ [A2 Na3 M2 HO]
  · isplitr; · iexact Hrec
    isplitl [A2]; · iexact A2
    isplitl [Na3]; · iexact Na3
    isplitl [M2]; · iexact M2
    iexact HO
  iintro ⟨R2, HO⟩
  iapply WP_ret
  iapply Hk
  isplitl [B2]; · iexact B2
  isplitl [ra3]; · iexact ra3
  isplitl [R2]; · iexact R2
  iexact HO

theorem part10 {Q : PUnit → sProp 𝕄} (v5 v8 v19 : BitVec 32) :
    iprop(records m K ∗ levAts L lv ∗ rbPts c 2 (by decide) (RB m c) ∗ (∃ f, rbPts (nxt c) 3 (by decide) f) ∗ mayXfer c 8 11 ∗ rdy c 2 ∗ rdy c 5 ∗ ow c [11, 15, 16, 17]
        ∗ ((agPts c 2 (by decide) (AG m c) ∗ done c 2 ∗ agPts c 3 (by decide) (AG m c) ∗ done c 5 ∗ rdy c 8 ∗ ow c [15, 16, 17]) -∗ Q ⟨⟩))
      ⊢ WP c (pt10 c v5 v8 v19) Q := by
  unfold pt10; rw [k0_part10_eq_skeleton]; unfold k0_part10_skel
  simp only [Prog.lift, Prog.bind_op, Prog.bind_ret, Prog.pure_eq_ret]
  iintro ⟨#Hrec, #Hlev, B2, Nb3, M8, R2, R5, HO, Hk⟩
  iapply (wp_rb_xfer m K c _ (dev8_eq c) 2 3 rfl (by decide) (by decide) 8 11 [15, 16, 17] sem8_eq sem11_eq rfl rfl (amt_r 8 (by decide)) (amt_r 11 (by decide))) $$ [B2 Nb3 M8 HO]
  · isplitr; · iexact Hrec
    isplitl [B2]; · iexact B2
    isplitl [Nb3]; · iexact Nb3
    isplitl [M8]; · iexact M8
    iexact HO
  iintro ⟨R8, HO⟩
  iapply (wp_dwait m K c 2 [15, 16, 17] sem2_eq (agPts c 2 (by decide) (AG m c)) rfl ((credit_x _).trans (amt_x 2 (by decide)).symm) (by decide)) $$ [R2 HO]
  · isplitr; · iexact Hrec
    isplitr; · iexact Hlev
    isplitl [R2]; · iexact R2
    iexact HO
  iintro ⟨A2, D2, HO⟩
  iapply (wp_dwait m K c 5 [15, 16, 17] sem5_eq (agPts c 3 (by decide) (AG m c)) rfl ((credit_x _).trans (amt_x 5 (by decide)).symm) (by decide)) $$ [R5 HO]
  · isplitr; · iexact Hrec
    isplitr; · iexact Hlev
    isplitl [R5]; · iexact R5
    iexact HO
  iintro ⟨A3, D5, HO⟩
  iapply WP_ret
  iapply Hk
  isplitl [A2]; · iexact A2
  isplitl [D2]; · iexact D2
  isplitl [A3]; · iexact A3
  isplitl [D5]; · iexact D5
  isplitl [R8]; · iexact R8
  iexact HO

theorem part11 {Q : (Σ' (v324 : BitVec 32), FVec F S128x512 .f32) → sProp 𝕄} (v2 v5 v8 v19 : BitVec 32) :
    iprop(records m K ∗ levAts L lv ∗ rdy c 8 ∗ rdy c 11 ∗ agPts c 3 (by decide) (AG m c) ∗ xaPts m c 3 ∗ ow c [15, 16, 17]
        ∗ (∀ v, (rbPts c 2 (by decide) (RB m c) ∗ done c 8 ∗ rbPts c 3 (by decide) (RB m c) ∗ done c 11 ∗ agPts c 3 (by decide) (AG m c) ∗ xaPts m c 3 ∗ ow c [15, 16, 17]) -∗ Q ⟨v, k0_pay11 (k0_pay2 (m.X (bk 3 c)))⟩))
      ⊢ WP c (pt11 c v2 v5 v8 v19) Q := by
  unfold pt11; rw [k0_part11_eq_skeleton]; unfold k0_part11_skel
  simp only [Prog.lift, Prog.bind_op, Prog.bind_ret, Prog.pure_eq_ret]
  iintro ⟨#Hrec, #Hlev, R8, R11, A3, xa3, HO, Hk⟩
  iapply (wp_dwait m K c 8 [15, 16, 17] sem8_eq (rbPts c 2 (by decide) (RB m c)) rfl ((credit_r _).trans (amt_r 8 (by decide)).symm) (by decide)) $$ [R8 HO]
  · isplitr; · iexact Hrec
    isplitr; · iexact Hlev
    isplitl [R8]; · iexact R8
    iexact HO
  iintro ⟨B2, D8, HO⟩
  iapply (wp_dwait m K c 11 [15, 16, 17] sem11_eq (rbPts c 3 (by decide) (RB m c)) rfl ((credit_r _).trans (amt_r 11 (by decide)).symm) (by decide)) $$ [R11 HO]
  · isplitr; · iexact Hrec
    isplitr; · iexact Hlev
    isplitl [R11]; · iexact R11
    iexact HO
  iintro ⟨B3, D11, HO⟩
  iapply (wp_ag_load c 3 _ (AG m c)) $$ A3
  iintro A3
  rw [AG_load m c 3]
  iapply (wp_xa_load m c 3) $$ xa3
  iintro %_ xa3
  iapply WP_ret
  iapply Hk
  isplitl [B2]; · iexact B2
  isplitl [D8]; · iexact D8
  isplitl [B3]; · iexact B3
  isplitl [D11]; · iexact D11
  isplitl [A3]; · iexact A3
  isplitl [xa3]; · iexact xa3
  iexact HO

/-- The gathered buffers complete: the gates computed from them. -/
theorem part12 {Q : (Σ' (v339 : Vec F S512x512 .f32) (v353 : IVec S512x8 1) (v355 : FVec F S512x8 .f32) (v357 : FVec F S512x1 .f32) (v359 : FVec F S512x1 .f32) (v363 : FVec F S512x1 .f32), F .f32) → sProp 𝕄} (v324 : BitVec 32) :
    iprop(records m K ∗ levAts L lv ∗ xaPts m c 3 ∗ rbPts c 3 (by decide) (RB m c) ∗ raPts m c 3
        ∗ ((rbPts c 3 (by decide) (RB m c) ∗ whl c cc0_scratch2 (XA m c) ∗ whl c cc0_scratch3 (RA m c)) -∗ Q ⟨XA m c, k0_pay15 (XA m c) (raAt m c 0) (raAt m c 1) (raAt m c 2) (raAt m c 3), k0_pay16 (XA m c) (raAt m c 0) (raAt m c 1) (raAt m c 2) (raAt m c 3), k0_pay17 (XA m c) (raAt m c 0) (raAt m c 1) (raAt m c 2) (raAt m c 3), k0_pay18 (XA m c) (raAt m c 0) (raAt m c 1) (raAt m c 2) (raAt m c 3), k0_pay19 (XA m c) (raAt m c 0) (raAt m c 1) (raAt m c 2) (raAt m c 3), one32⟩))
      ⊢ WP c (pt12 c v324 (k0_pay11 (k0_pay2 (m.X (bk 3 c))))) Q := by
  unfold pt12; rw [k0_part12_eq_skeleton]; unfold k0_part12_skel
  simp only [Prog.lift, Prog.bind_op, Prog.bind_ret, Prog.pure_eq_ret]
  iintro ⟨#Hrec, #Hlev, xa3, B3, ra3, Hk⟩
  iapply (wp_xa_store m c 3 (by decide) (off3_2 c) _ (pay11_eq _)) $$ xa3
  iintro xa4
  iapply (wp_rb_load c 3 _ (RB m c)) $$ B3
  iintro B3
  rw [RB_load m c 3]
  iapply (wp_ra_load m c 3) $$ ra3
  iintro %_ ra3
  iapply (wp_ra_store m c 3 (by decide) (off4_2 c) _ (pay12_eq _)) $$ ra3
  iintro ra4
  ihave XA := (xaPts_four m c) $$ xa4
  ihave RA := (raPts_four m c) $$ ra4
  iapply (wp_load 𝒱₀ (c : Thread nD τ) none Set.univ (m := Memref.whole cc0_scratch2) (S := Finset.univ) (f := XA m c) (Finset.subset_univ _)) $$ XA
  iintro XA
  rw [xa_read]
  unfold one32 Scalar.ofBits
  iapply (wp_load 𝒱₀ (c : Thread nD τ) none Set.univ (m := Memref.whole cc0_scratch3) (r := (slotR 4 512 2 0 (by decide)).toLoadRect) (S := Finset.univ) (f := RA m c) (Finset.subset_univ _)) $$ RA
  iintro RA
  rw [show (Memref.whole cc0_scratch3).view.readAt (Elt F) (slotR 4 512 2 0 (by decide)).toLoadRect (RA m c) = raAt m c 0 from RA_load m c 0]
  iapply (wp_load 𝒱₀ (c : Thread nD τ) none Set.univ (m := Memref.whole cc0_scratch3) (r := (slotR 4 512 2 1 (by decide)).toLoadRect) (S := Finset.univ) (f := RA m c) (Finset.subset_univ _)) $$ RA
  iintro RA
  rw [show (Memref.whole cc0_scratch3).view.readAt (Elt F) (slotR 4 512 2 1 (by decide)).toLoadRect (RA m c) = raAt m c 1 from RA_load m c 1]
  iapply (wp_load 𝒱₀ (c : Thread nD τ) none Set.univ (m := Memref.whole cc0_scratch3) (r := (slotR 4 512 2 2 (by decide)).toLoadRect) (S := Finset.univ) (f := RA m c) (Finset.subset_univ _)) $$ RA
  iintro RA
  rw [show (Memref.whole cc0_scratch3).view.readAt (Elt F) (slotR 4 512 2 2 (by decide)).toLoadRect (RA m c) = raAt m c 2 from RA_load m c 2]
  iapply (wp_load 𝒱₀ (c : Thread nD τ) none Set.univ (m := Memref.whole cc0_scratch3) (r := (slotR 4 512 2 3 (by decide)).toLoadRect) (S := Finset.univ) (f := RA m c) (Finset.subset_univ _)) $$ RA
  iintro RA
  rw [show (Memref.whole cc0_scratch3).view.readAt (Elt F) (slotR 4 512 2 3 (by decide)).toLoadRect (RA m c) = raAt m c 3 from RA_load m c 3]
  iapply WP_ret
  iapply Hk
  isplitl [B3]; · iexact B3
  isplitl [XA]; · iexact XA
  iexact RA

/-- The first of the device's two experts. -/
theorem part13 {Q : (Σ' (v396 : FVec F S512x512 .f32), FVec F S512x1 .f32) → sProp 𝕄} (v2 : BitVec 32) (x : Vec F S512x512 .f32) (p15 : IVec S512x8 1) (p16 : FVec F S512x8 .f32) (p17 p18 p19 : FVec F S512x1 .f32) (o : F .f32) :
    iprop(records m K ∗ levAts L lv ∗ whl c cc0_stg2_0 (m.W1 c) ∗ whl c cc0_stg3_0 (m.W2 c)
        ∗ ((whl c cc0_stg2_0 (m.W1 c) ∗ whl c cc0_stg3_0 (m.W2 c)) -∗ Q ⟨k0_pay21 v2 x p15 p16 p17 p18 p19 o (w1At m c 0) (w2At m c 0), k0_pay22 v2 p15 p16 p17 p18 p19 o⟩))
      ⊢ WP c (pt13 v2 x p15 p16 p17 p18 p19 o) Q := by
  unfold pt13; rw [k0_part13_eq_skeleton]; unfold k0_part13_skel
  simp only [Prog.lift, Prog.bind_op, Prog.bind_ret, Prog.pure_eq_ret]
  iintro ⟨#Hrec, #Hlev, W1, W2, Hk⟩
  iapply (wp_load 𝒱₀ (c : Thread nD τ) none Set.univ (m := Memref.whole cc0_stg2_0) (r := (slotR 2 512 1024 0 (by decide)).toLoadRect) (S := Finset.univ) (f := m.W1 c) (Finset.subset_univ _)) $$ W1
  iintro W1
  rw [show (Memref.whole cc0_stg2_0).view.readAt (Elt F) (slotR 2 512 1024 0 (by decide)).toLoadRect (m.W1 c) = w1At m c 0 from w1_load m c 0]
  iapply (wp_load 𝒱₀ (c : Thread nD τ) none Set.univ (m := Memref.whole cc0_stg3_0) (r := (slotR 2 1024 512 0 (by decide)).toLoadRect) (S := Finset.univ) (f := m.W2 c) (Finset.subset_univ _)) $$ W2
  iintro W2
  rw [show (Memref.whole cc0_stg3_0).view.readAt (Elt F) (slotR 2 1024 512 0 (by decide)).toLoadRect (m.W2 c) = w2At m c 0 from w2_load m c 0]
  iapply WP_ret
  iapply Hk
  isplitl [W1]; · iexact W1
  iexact W2

/-- The second, the partial sums stored, and the first block to send taken from them. -/
theorem part14 {Q : PUnit → sProp 𝕄} (v2 : BitVec 32) (x v396 : Vec F S512x512 .f32) (v404 : FVec F S512x1 .f32) (e : k0_pay23 x v396 v404 (w1At m c 1) (w2At m c 1) = PS m c) :
    iprop(records m K ∗ levAts L lv ∗ whl c cc0_stg2_0 (m.W1 c) ∗ whl c cc0_stg3_0 (m.W2 c) ∗ (∃ f, whl c cc0_scratch4 f) ∗ (∃ f, sbPts c 0 (by decide) f)
        ∗ ((whl c cc0_stg2_0 (m.W1 c) ∗ whl c cc0_stg3_0 (m.W2 c) ∗ whl c cc0_scratch4 (PS m c) ∗ sbPts c 0 (by decide) (SB m c)) -∗ Q ⟨⟩))
      ⊢ WP c (pt14 c v2 x v396 v404) Q := by
  unfold pt14; rw [k0_part14_eq_skeleton]; unfold k0_part14_skel
  simp only [Prog.lift, Prog.bind_op, Prog.bind_ret, Prog.pure_eq_ret]
  iintro ⟨#Hrec, #Hlev, W1, W2, PSx, S0x, Hk⟩
  iapply (wp_load 𝒱₀ (c : Thread nD τ) none Set.univ (m := Memref.whole cc0_stg2_0) (r := (slotR 2 512 1024 1 (by decide)).toLoadRect) (S := Finset.univ) (f := m.W1 c) (Finset.subset_univ _)) $$ W1
  iintro W1
  rw [show (Memref.whole cc0_stg2_0).view.readAt (Elt F) (slotR 2 512 1024 1 (by decide)).toLoadRect (m.W1 c) = w1At m c 1 from w1_load m c 1]
  iapply (wp_load 𝒱₀ (c : Thread nD τ) none Set.univ (m := Memref.whole cc0_stg3_0) (r := (slotR 2 1024 512 1 (by decide)).toLoadRect) (S := Finset.univ) (f := m.W2 c) (Finset.subset_univ _)) $$ W2
  iintro W2
  rw [show (Memref.whole cc0_stg3_0).view.readAt (Elt F) (slotR 2 1024 512 1 (by decide)).toLoadRect (m.W2 c) = w2At m c 1 from w2_load m c 1]
  icases PSx with ⟨%f, PS⟩
  iapply (wp_load 𝒱₀ (c : Thread nD τ) none Set.univ (m := Memref.whole cc0_scratch4) (S := Finset.univ) (f := f) (Finset.subset_univ _)) $$ PS
  iintro PS
  iapply (wp_store 𝒱₀ (c : Thread nD τ) none Set.univ (m := Memref.whole cc0_scratch4) (r := Rect.unit (s := S512x512) ![0, 0] S512x512.size inb_S512x512_S512x512_0_0) (Mk := Finset.univ) (S := Finset.univ) (f := f) (Finset.subset_univ _)) $$ PS
  iintro PS
  rw [ps_write f, e]
  iapply (wp_load 𝒱₀ (c : Thread nD τ) none Set.univ (m := Memref.whole cc0_scratch4) (S := Finset.univ) (f := PS m c) (Finset.subset_univ _)) $$ PS
  iintro PS
  rw [ps_load (yb c 1) (off3_0 c)]
  icases S0x with ⟨%f0, S0⟩
  iapply (wp_sb_load c 0 _ f0) $$ S0
  iintro S0
  iapply (wp_sb_store m c 0 _ f0 _ (rfl)) $$ S0
  iintro S0
  iapply WP_ret
  iapply Hk
  isplitl [W1]; · iexact W1
  isplitl [W2]; · iexact W2
  isplitl [PS]; · iexact PS
  iexact S0

/-- The three steps of the scatter. -/
theorem part15 {Q : PUnit → sProp 𝕄} (v5 v8 v19 : BitVec 32) :
    iprop(records m K ∗ levAts L lv ∗ sbPts c 0 (by decide) (SB m c) ∗ (∃ f, rrPts (nxt c) 0 (by decide) f) ∗ mayXfer c 12 15 ∗ ow c [15, 16, 17]
        ∗ ((sbPts c 0 (by decide) (SB m c) ∗ done c 12 ∗ ow c [16, 17]) -∗ Q ⟨⟩))
      ⊢ WP c (pt15 c v5 v8 v19) Q := by
  unfold pt15; rw [k0_part15_eq_skeleton]; unfold k0_part15_skel
  simp only [Prog.lift, Prog.bind_op, Prog.bind_ret, Prog.pure_eq_ret]
  iintro ⟨#Hrec, #Hlev, S0, Nr0, M12, HO, Hk⟩
  iapply (wp_rs_xfer m K c _ (dev9_eq c) 0 (by decide) 12 15 [16, 17] sem12_eq sem15_eq rfl rfl (amt_x 12 (by decide)) (amt_x 15 (by decide))) $$ [S0 Nr0 M12 HO]
  · isplitr; · iexact Hrec
    isplitl [S0]; · iexact S0
    isplitl [Nr0]; · iexact Nr0
    isplitl [M12]; · iexact M12
    iexact HO
  iintro ⟨R12, HO⟩
  iapply (wp_dwait m K c 12 [16, 17] sem12_eq (sbPts c 0 (by decide) (SB m c)) rfl ((credit_x _).trans (amt_x 12 (by decide)).symm) (by decide)) $$ [R12 HO]
  · isplitr; · iexact Hrec
    isplitr; · iexact Hlev
    isplitl [R12]; · iexact R12
    iexact HO
  iintro ⟨S0, D12, HO⟩
  iapply WP_ret
  iapply Hk
  isplitl [S0]; · iexact S0
  isplitl [D12]; · iexact D12
  iexact HO

theorem part16 {Q : PUnit → sProp 𝕄} (v2 v5 v8 v19 : BitVec 32) :
    iprop(records m K ∗ levAts L lv ∗ rdy c 15 ∗ whl c cc0_scratch4 (PS m c) ∗ (∃ f, sbPts c 1 (by decide) f) ∗ ow c [16, 17]
        ∗ ((rrPts c 0 (by decide) (RR m c) ∗ done c 15 ∗ whl c cc0_scratch4 (PS m c) ∗ sbPts c 1 (by decide) (SB m c) ∗ ow c [16, 17]) -∗ Q ⟨⟩))
      ⊢ WP c (pt16 c v2 v5 v8 v19) Q := by
  unfold pt16; rw [k0_part16_eq_skeleton]; unfold k0_part16_skel
  simp only [Prog.lift, Prog.bind_op, Prog.bind_ret, Prog.pure_eq_ret]
  iintro ⟨#Hrec, #Hlev, R15, PS, S1x, HO, Hk⟩
  iapply (wp_dwait m K c 15 [16, 17] sem15_eq (rrPts c 0 (by decide) (RR m c)) rfl ((credit_x _).trans (amt_x 15 (by decide)).symm) (by decide)) $$ [R15 HO]
  · isplitr; · iexact Hrec
    isplitr; · iexact Hlev
    isplitl [R15]; · iexact R15
    iexact HO
  iintro ⟨rr0, D15, HO⟩
  iapply (wp_load 𝒱₀ (c : Thread nD τ) none Set.univ (m := Memref.whole cc0_scratch4) (S := Finset.univ) (f := PS m c) (Finset.subset_univ _)) $$ PS
  iintro PS
  rw [ps_load (yb c 2) (off3_1 c)]
  iapply (wp_rr_load c 0 _ (RR m c)) $$ rr0
  iintro rr0
  rw [RR_load m c 0]
  icases S1x with ⟨%f1, S1⟩
  iapply (wp_sb_load c 1 _ f1) $$ S1
  iintro S1
  iapply (wp_sb_store m c 1 _ f1 _ (rfl)) $$ S1
  iintro S1
  iapply WP_ret
  iapply Hk
  isplitl [rr0]; · iexact rr0
  isplitl [D15]; · iexact D15
  isplitl [PS]; · iexact PS
  isplitl [S1]; · iexact S1
  iexact HO

theorem part17 {Q : (Σ' (v523 : BitVec 32) (c4_i32_438 : BitVec 32) (v524 : BitVec 1), BitVec 32) → sProp 𝕄} (v2 v5 v8 v19 : BitVec 32) :
    iprop(records m K ∗ levAts L lv ∗ sbPts c 1 (by decide) (SB m c) ∗ (∃ f, rrPts (nxt c) 1 (by decide) f) ∗ mayXfer c 13 16 ∗ rdy c 16 ∗ ow c [16, 17]
        ∗ (∀ v w u z, (sbPts c 1 (by decide) (SB m c) ∗ done c 13 ∗ rrPts c 1 (by decide) (RR m c) ∗ done c 16 ∗ ow c [17]) -∗ Q ⟨v, w, u, z⟩))
      ⊢ WP c (pt17 c v2 v5 v8 v19) Q := by
  unfold pt17; rw [k0_part17_eq_skeleton]; unfold k0_part17_skel
  simp only [Prog.lift, Prog.bind_op, Prog.bind_ret, Prog.pure_eq_ret]
  iintro ⟨#Hrec, #Hlev, S1, Nr1, M13, R16, HO, Hk⟩
  iapply (wp_rs_xfer m K c _ (dev10_eq c) 1 (by decide) 13 16 [17] sem13_eq sem16_eq rfl rfl (amt_x 13 (by decide)) (amt_x 16 (by decide))) $$ [S1 Nr1 M13 HO]
  · isplitr; · iexact Hrec
    isplitl [S1]; · iexact S1
    isplitl [Nr1]; · iexact Nr1
    isplitl [M13]; · iexact M13
    iexact HO
  iintro ⟨R13, HO⟩
  iapply (wp_dwait m K c 13 [17] sem13_eq (sbPts c 1 (by decide) (SB m c)) rfl ((credit_x _).trans (amt_x 13 (by decide)).symm) (by decide)) $$ [R13 HO]
  · isplitr; · iexact Hrec
    isplitr; · iexact Hlev
    isplitl [R13]; · iexact R13
    iexact HO
  iintro ⟨S1, D13, HO⟩
  iapply (wp_dwait m K c 16 [17] sem16_eq (rrPts c 1 (by decide) (RR m c)) rfl ((credit_x _).trans (amt_x 16 (by decide)).symm) (by decide)) $$ [R16 HO]
  · isplitr; · iexact Hrec
    isplitr; · iexact Hlev
    isplitl [R16]; · iexact R16
    iexact HO
  iintro ⟨rr1, D16, HO⟩
  iapply WP_ret
  iapply Hk
  isplitl [S1]; · iexact S1
  isplitl [D13]; · iexact D13
  isplitl [rr1]; · iexact rr1
  isplitl [D16]; · iexact D16
  iexact HO

theorem part18 {Q : PUnit → sProp 𝕄} (v5 v8 v19 v523 w : BitVec 32) (u : BitVec 1) (z : BitVec 32) :
    iprop(records m K ∗ levAts L lv ∗ whl c cc0_scratch4 (PS m c) ∗ rrPts c 1 (by decide) (RR m c) ∗ (∃ f, sbPts c 2 (by decide) f) ∗ (∃ f, rrPts (nxt c) 2 (by decide) f) ∗ mayXfer c 14 17 ∗ ow c [17]
        ∗ ((whl c cc0_scratch4 (PS m c) ∗ rrPts c 1 (by decide) (RR m c) ∗ rdy c 14 ∗ ow c []) -∗ Q ⟨⟩))
      ⊢ WP c (pt18 c v5 v8 v19 v523 w u z) Q := by
  unfold pt18; rw [k0_part18_eq_skeleton]; unfold k0_part18_skel
  simp only [Prog.lift, Prog.bind_op, Prog.bind_ret, Prog.pure_eq_ret]
  iintro ⟨#Hrec, #Hlev, PS, rr1, S2x, Nr2, M14, HO, Hk⟩
  iapply (wp_load 𝒱₀ (c : Thread nD τ) none Set.univ (m := Memref.whole cc0_scratch4) (S := Finset.univ) (f := PS m c) (Finset.subset_univ _)) $$ PS
  iintro PS
  rw [ps_load (yb c 3) (off3_2 c)]
  iapply (wp_rr_load c 1 _ (RR m c)) $$ rr1
  iintro rr1
  rw [RR_load m c 1]
  icases S2x with ⟨%f2, S2⟩
  iapply (wp_sb_load c 2 _ f2) $$ S2
  iintro S2
  iapply (wp_sb_store m c 2 _ f2 _ (rfl)) $$ S2
  iintro S2
  iapply (wp_rs_xfer m K c _ (dev11_eq c) 2 (by decide) 14 17 [] sem14_eq sem17_eq rfl rfl (amt_x 14 (by decide)) (amt_x 17 (by decide))) $$ [S2 Nr2 M14 HO]
  · isplitr; · iexact Hrec
    isplitl [S2]; · iexact S2
    isplitl [Nr2]; · iexact Nr2
    isplitl [M14]; · iexact M14
    iexact HO
  iintro ⟨R14, HO⟩
  iapply WP_ret
  iapply Hk
  isplitl [PS]; · iexact PS
  isplitl [rr1]; · iexact rr1
  isplitl [R14]; · iexact R14
  iexact HO

end Cert.KernelIdealProof

end
-- ==== Proof.Ideal.Whole.lean ====
/-
# The kernel's body, whole

The parts composed, from the scratch buffers whole to the scratch buffers whole; and from that the obligation of the body of
the launch's one step on each device.
-/
module

public import proofs.«01_k».proof.Proof.Ideal.Body
public import proofs.«01_k».proof.Proof.Gen.KernelIdeal.Points
public import Idealize.ShloMosaic.Lib.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : Inp F) (K : Names) (c : Dev nD)

/-! ## Buffers of stacked slots, whole and slot by slot -/

theorem ag_slots (f : Vec F S4x128x512 .f32) :
    (whl c cc0_scratch0 f : sProp 𝕄) = iprop(agPts c 0 (by decide) f ∗ agPts c 1 (by decide) f ∗ agPts c 2 (by decide) f ∗ agPts c 3 (by decide) f) := by
  refine (Idealize.ShloMosaic.Ring.pointsTo_blocks (ℓ := (c : Thread nD τ).loc cc0_scratch0) (fun k : Fin 4 => (slotR 4 128 512 k.val k.isLt).set) slot_disjoint slot_cover f).trans ?_
  refine (bigSep_univ_eq_bigSepL [(0 : Fin 4), 1, 2, 3] (by decide) (by decide) _).trans ?_
  rw [agPts_eq (F := F), agPts_eq (F := F), agPts_eq (F := F), agPts_eq (F := F)]; rfl
theorem rb_slots (f : Vec F S4x512x2 .f32) :
    (whl c cc0_scratch1 f : sProp 𝕄) = iprop(rbPts c 0 (by decide) f ∗ rbPts c 1 (by decide) f ∗ rbPts c 2 (by decide) f ∗ rbPts c 3 (by decide) f) := by
  refine (Idealize.ShloMosaic.Ring.pointsTo_blocks (ℓ := (c : Thread nD τ).loc cc0_scratch1) (fun k : Fin 4 => (slotR 4 512 2 k.val k.isLt).set) slot_disjoint slot_cover f).trans ?_
  refine (bigSep_univ_eq_bigSepL [(0 : Fin 4), 1, 2, 3] (by decide) (by decide) _).trans ?_
  rw [rbPts_eq (F := F), rbPts_eq (F := F), rbPts_eq (F := F), rbPts_eq (F := F)]; rfl
theorem sb_slots (f : Vec F S3x128x512 .f32) :
    (whl c cc0_scratch5 f : sProp 𝕄) = iprop(sbPts c 0 (by decide) f ∗ sbPts c 1 (by decide) f ∗ sbPts c 2 (by decide) f) := by
  refine (Idealize.ShloMosaic.Ring.pointsTo_blocks (ℓ := (c : Thread nD τ).loc cc0_scratch5) (fun k : Fin 3 => (slotR 3 128 512 k.val k.isLt).set) slot_disjoint slot_cover f).trans ?_
  refine (bigSep_univ_eq_bigSepL [(0 : Fin 3), 1, 2] (by decide) (by decide) _).trans ?_
  rw [sbPts_eq (F := F), sbPts_eq (F := F), sbPts_eq (F := F)]; rfl
theorem rr_slots (f : Vec F S3x128x512 .f32) :
    (whl c cc0_scratch6 f : sProp 𝕄) = iprop(rrPts c 0 (by decide) f ∗ rrPts c 1 (by decide) f ∗ rrPts c 2 (by decide) f) := by
  refine (Idealize.ShloMosaic.Ring.pointsTo_blocks (ℓ := (c : Thread nD τ).loc cc0_scratch6) (fun k : Fin 3 => (slotR 3 128 512 k.val k.isLt).set) slot_disjoint slot_cover f).trans ?_
  refine (bigSep_univ_eq_bigSepL [(0 : Fin 3), 1, 2] (by decide) (by decide) _).trans ?_
  rw [rrPts_eq (F := F), rrPts_eq (F := F), rrPts_eq (F := F)]; rfl

/-! ## What a device starts with and ends with -/

/-- The rights of the protocol device `c` starts with. -/
def ghost : sProp 𝕄 :=
  iprop(atPos ER (barCell c) 0 ∅ 0 ∗ cred (tallyAt (barCell c) () 2)
    ∗ dutyTok ER (barCell (nxt c)) 0 false ∗ dutyTok ER (barCell (prv c)) 0 true
    ∗ kit c 0 3 ∗ kit c 1 4 ∗ kit c 2 5 ∗ kit c 6 9 ∗ kit c 7 10 ∗ kit c 8 11 ∗ kit c 12 15 ∗ kit c 13 16 ∗ kit c 14 17)

/-- The scratch buffers, each whole at some contents. -/
def scratch : sProp 𝕄 :=
  iprop((∃ f, whl c cc0_scratch0 f) ∗ (∃ f, whl c cc0_scratch1 f) ∗ (∃ f, whl c cc0_scratch2 f) ∗ (∃ f, whl c cc0_scratch3 f)
    ∗ (∃ f, whl c cc0_scratch4 f) ∗ (∃ f, whl c cc0_scratch5 f) ∗ (∃ f, whl c cc0_scratch6 f))

/-- Every cell of the device closed. -/
def closed : sProp 𝕄 :=
  iprop(semVal (barCell c) 0 ∗ done c 0 ∗ done c 1 ∗ done c 2 ∗ done c 3 ∗ done c 4 ∗ done c 5 ∗ done c 6 ∗ done c 7 ∗ done c 8 ∗ done c 9 ∗ done c 10 ∗ done c 11 ∗ done c 12 ∗ done c 13 ∗ done c 14 ∗ done c 15 ∗ done c 16 ∗ done c 17)

/-- All but the result's computation, from the buffers slot by slot to the buffers slot by slot. -/
theorem part19 {Q : Dev nD → sProp 𝕄} :
    iprop(records m K ∗ levAts L lv ∗ (∃ W : Waits sig Unit, owes (c : Thread nD τ) (O₀ c) W) ∗ atPos ER (barCell c) 0 ∅ 0 ∗ cred (tallyAt (barCell c) () 2)
        ∗ dutyTok ER (barCell (nxt c)) 0 false ∗ dutyTok ER (barCell (prv c)) 0 true ∗ landing c
        ∗ (∃ f, agPts c 0 (by decide) f) ∗ (∃ f, rbPts c 0 (by decide) f) ∗ xaPts m c 0 ∗ raPts m c 0 ∗ whl c cc0_stg2_0 (m.W1 c) ∗ whl c cc0_stg3_0 (m.W2 c) ∗ whl c cc0_stg0_0 (m.X c) ∗ whl c cc0_stg1_0 (m.R c) ∗ (∃ f, whl c cc0_scratch4 f) ∗ (∃ f, sbPts c 0 (by decide) f) ∗ (∃ f, sbPts c 1 (by decide) f) ∗ (∃ f, sbPts c 2 (by decide) f) ∗ mayXfer c 0 3 ∗ mayXfer c 1 4 ∗ mayXfer c 2 5 ∗ mayXfer c 6 9 ∗ mayXfer c 7 10 ∗ mayXfer c 8 11 ∗ mayXfer c 12 15 ∗ mayXfer c 13 16 ∗ mayXfer c 14 17 ∗ rdy c 3 ∗ rdy c 4 ∗ rdy c 5 ∗ rdy c 9 ∗ rdy c 10 ∗ rdy c 11 ∗ rdy c 15 ∗ rdy c 16 ∗ rdy c 17
        ∗ ((semVal (barCell c) 0 ∗ whl c cc0_stg0_0 (m.X c) ∗ whl c cc0_stg1_0 (m.R c) ∗ whl c cc0_stg2_0 (m.W1 c) ∗ whl c cc0_stg3_0 (m.W2 c) ∗ whl c cc0_scratch4 (PS m c) ∗ whl c cc0_scratch2 (XA m c) ∗ whl c cc0_scratch3 (RA m c) ∗ agPts c 0 (by decide) (AG m c) ∗ agPts c 1 (by decide) (AG m c) ∗ agPts c 2 (by decide) (AG m c) ∗ agPts c 3 (by decide) (AG m c) ∗ rbPts c 0 (by decide) (RB m c) ∗ rbPts c 1 (by decide) (RB m c) ∗ rbPts c 2 (by decide) (RB m c) ∗ rbPts c 3 (by decide) (RB m c) ∗ sbPts c 0 (by decide) (SB m c) ∗ sbPts c 1 (by decide) (SB m c) ∗ sbPts c 2 (by decide) (SB m c) ∗ rrPts c 0 (by decide) (RR m c) ∗ rrPts c 1 (by decide) (RR m c) ∗ rrPts c 2 (by decide) (RR m c) ∗ done c 0 ∗ done c 1 ∗ done c 2 ∗ done c 3 ∗ done c 4 ∗ done c 5 ∗ done c 6 ∗ done c 7 ∗ done c 8 ∗ done c 9 ∗ done c 10 ∗ done c 11 ∗ done c 12 ∗ done c 13 ∗ done c 14 ∗ done c 15 ∗ done c 16 ∗ done c 17 ∗ ow c []) -∗ Q c))
      ⊢ WP c pt19 Q := by
  unfold pt19; rw [k0_part19_eq_skeleton]; unfold k0_part19_skel WP
  simp only [wp_bind]
  iintro ⟨#Hrec, #Hlev, HO, Hat, Hc, HtN, HtP, Hland, A0x, B0x, xa0, ra0, W1, W2, X, R, PSx, S0x, S1x, S2x, M0, M1, M2, M6, M7, M8, M12, M13, M14, R3, R4, R5, R9, R10, R11, R15, R16, R17, Hk⟩
  iapply (part1 c)
  iintro %v5 %v8 %v19 %v31 %v34
  iapply (part2 m K c (yw c) v5 v8 v19 v31 v34)
  isplitr; · iexact Hrec
  isplitr; · iexact Hlev
  isplitl [HO]; · iexact HO
  isplitl [Hat]; · iexact Hat
  isplitl [Hc]; · iexact Hc
  isplitl [HtN]; · iexact HtN
  isplitl [HtP]; · iexact HtP
  isplitl [Hland]; · iexact Hland
  isplitl [X]; · iexact X
  isplitl [R]; · iexact R
  isplitl [A0x]; · iexact A0x
  isplitl [B0x]; · iexact B0x
  isplitl [xa0]; · iexact xa0
  unfold landing
  iintro ⟨Hz, ⟨Na1, Na2, Na3, Nb1, Nb2, Nb3, Nr0, Nr1, Nr2⟩, X, R, A0, B0, xa1, HO⟩
  iapply (part3 m K c (yw c) v5 v8 v19)
  isplitr; · iexact Hrec
  isplitr; · iexact Hlev
  isplitl [ra0]; · iexact ra0
  isplitl [A0]; · iexact A0
  isplitl [Na1]; · iexact Na1
  isplitl [M0]; · iexact M0
  isplitl [HO]; · iexact HO
  iintro ⟨ra1, R0, HO⟩
  iapply (part4 m K c v5 v8 v19)
  isplitr; · iexact Hrec
  isplitr; · iexact Hlev
  isplitl [B0]; · iexact B0
  isplitl [Nb1]; · iexact Nb1
  isplitl [M6]; · iexact M6
  isplitl [R0]; · iexact R0
  isplitl [R3]; · iexact R3
  isplitl [HO]; · iexact HO
  iintro ⟨A0, D0, A1, D3, B0, D6, HO⟩
  iapply (part5 m K c (yw c) v5 v8 v19)
  isplitr; · iexact Hrec
  isplitr; · iexact Hlev
  isplitl [R9]; · iexact R9
  isplitl [A1]; · iexact A1
  isplitl [xa1]; · iexact xa1
  isplitl [HO]; · iexact HO
  iintro %part5v ⟨B1, D9, A1, xa2, HO⟩
  iapply (part6 m K c v5 v8 v19 _)
  isplitr; · iexact Hrec
  isplitr; · iexact Hlev
  isplitl [B1]; · iexact B1
  isplitl [ra1]; · iexact ra1
  isplitl [A1]; · iexact A1
  isplitl [Na2]; · iexact Na2
  isplitl [M1]; · iexact M1
  isplitl [HO]; · iexact HO
  iintro ⟨B1, ra2, R1, HO⟩
  iapply (part7 m K c v5 v8 v19)
  isplitr; · iexact Hrec
  isplitr; · iexact Hlev
  isplitl [B1]; · iexact B1
  isplitl [Nb2]; · iexact Nb2
  isplitl [M7]; · iexact M7
  isplitl [R1]; · iexact R1
  isplitl [R4]; · iexact R4
  isplitl [HO]; · iexact HO
  iintro ⟨A1, D1, A2, D4, R7, HO⟩
  iapply (part8 m K c (yw c) v5 v8 v19)
  isplitr; · iexact Hrec
  isplitr; · iexact Hlev
  isplitl [R7]; · iexact R7
  isplitl [R10]; · iexact R10
  isplitl [A2]; · iexact A2
  isplitl [xa2]; · iexact xa2
  isplitl [HO]; · iexact HO
  iintro %part8v ⟨B1, D7, B2, D10, A2, xa3, HO⟩
  iapply (part9 m K c v5 v8 v19 _)
  isplitr; · iexact Hrec
  isplitr; · iexact Hlev
  isplitl [B2]; · iexact B2
  isplitl [ra2]; · iexact ra2
  isplitl [A2]; · iexact A2
  isplitl [Na3]; · iexact Na3
  isplitl [M2]; · iexact M2
  isplitl [HO]; · iexact HO
  iintro ⟨B2, ra3, R2, HO⟩
  iapply (part10 m K c v5 v8 v19)
  isplitr; · iexact Hrec
  isplitr; · iexact Hlev
  isplitl [B2]; · iexact B2
  isplitl [Nb3]; · iexact Nb3
  isplitl [M8]; · iexact M8
  isplitl [R2]; · iexact R2
  isplitl [R5]; · iexact R5
  isplitl [HO]; · iexact HO
  iintro ⟨A2, D2, A3, D5, R8, HO⟩
  iapply (part11 m K c (yw c) v5 v8 v19)
  isplitr; · iexact Hrec
  isplitr; · iexact Hlev
  isplitl [R8]; · iexact R8
  isplitl [R11]; · iexact R11
  isplitl [A3]; · iexact A3
  isplitl [xa3]; · iexact xa3
  isplitl [HO]; · iexact HO
  iintro %part11v ⟨B2, D8, B3, D11, A3, xa3, HO⟩
  iapply (part12 m K c _)
  isplitr; · iexact Hrec
  isplitr; · iexact Hlev
  isplitl [xa3]; · iexact xa3
  isplitl [B3]; · iexact B3
  isplitl [ra3]; · iexact ra3
  iintro ⟨B3, XA, RA⟩
  iapply (part13 m K c _ _ _ _ _ _ _ _)
  isplitr; · iexact Hrec
  isplitr; · iexact Hlev
  isplitl [W1]; · iexact W1
  isplitl [W2]; · iexact W2
  iintro ⟨W1, W2⟩
  iapply (part14 m K c (yw c) _ _ _ rfl)
  isplitr; · iexact Hrec
  isplitr; · iexact Hlev
  isplitl [W1]; · iexact W1
  isplitl [W2]; · iexact W2
  isplitl [PSx]; · iexact PSx
  isplitl [S0x]; · iexact S0x
  iintro ⟨W1, W2, PS, S0⟩
  iapply (part15 m K c v5 v8 v19)
  isplitr; · iexact Hrec
  isplitr; · iexact Hlev
  isplitl [S0]; · iexact S0
  isplitl [Nr0]; · iexact Nr0
  isplitl [M12]; · iexact M12
  isplitl [HO]; · iexact HO
  iintro ⟨S0, D12, HO⟩
  iapply (part16 m K c (yw c) v5 v8 v19)
  isplitr; · iexact Hrec
  isplitr; · iexact Hlev
  isplitl [R15]; · iexact R15
  isplitl [PS]; · iexact PS
  isplitl [S1x]; · iexact S1x
  isplitl [HO]; · iexact HO
  iintro ⟨rr0, D15, PS, S1, HO⟩
  iapply (part17 m K c (yw c) v5 v8 v19)
  isplitr; · iexact Hrec
  isplitr; · iexact Hlev
  isplitl [S1]; · iexact S1
  isplitl [Nr1]; · iexact Nr1
  isplitl [M13]; · iexact M13
  isplitl [R16]; · iexact R16
  isplitl [HO]; · iexact HO
  iintro %part17v %part17w %part17u %part17z ⟨S1, D13, rr1, D16, HO⟩
  iapply (part18 m K c v5 v8 v19 _ _ _ _)
  isplitr; · iexact Hrec
  isplitr; · iexact Hlev
  isplitl [PS]; · iexact PS
  isplitl [rr1]; · iexact rr1
  isplitl [S2x]; · iexact S2x
  isplitl [Nr2]; · iexact Nr2
  isplitl [M14]; · iexact M14
  isplitl [HO]; · iexact HO
  iintro ⟨PS, rr1, R14, HO⟩
  simp only [Prog.lift, Prog.bind_op, Prog.bind_ret, Prog.pure_eq_ret]
  iapply (wp_dwait m K c 14 [] sem14_eq (sbPts c 2 (by decide) (SB m c)) rfl ((credit_x _).trans (amt_x 14 (by decide)).symm) (by decide)) $$ [R14 HO]
  · isplitr; · iexact Hrec
    isplitr; · iexact Hlev
    isplitl [R14]; · iexact R14
    iexact HO
  iintro ⟨S2, D14, HO⟩
  iapply WP_ret
  iapply (wp_dwait m K c 17 [] sem17_eq (rrPts c 2 (by decide) (RR m c)) rfl ((credit_x _).trans (amt_x 17 (by decide)).symm) (by decide)) $$ [R17 HO]
  · isplitr; · iexact Hrec
    isplitr; · iexact Hlev
    isplitl [R17]; · iexact R17
    iexact HO
  iintro ⟨rr2, D17, HO⟩
  iapply WP_ret
  iapply WP_ret
  iapply Hk
  isplitl [Hz]; · iexact Hz
  isplitl [X]; · iexact X
  isplitl [R]; · iexact R
  isplitl [W1]; · iexact W1
  isplitl [W2]; · iexact W2
  isplitl [PS]; · iexact PS
  isplitl [XA]; · iexact XA
  isplitl [RA]; · iexact RA
  isplitl [A0]; · iexact A0
  isplitl [A1]; · iexact A1
  isplitl [A2]; · iexact A2
  isplitl [A3]; · iexact A3
  isplitl [B0]; · iexact B0
  isplitl [B1]; · iexact B1
  isplitl [B2]; · iexact B2
  isplitl [B3]; · iexact B3
  isplitl [S0]; · iexact S0
  isplitl [S1]; · iexact S1
  isplitl [S2]; · iexact S2
  isplitl [rr0]; · iexact rr0
  isplitl [rr1]; · iexact rr1
  isplitl [rr2]; · iexact rr2
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  isplitl [D12]; · iexact D12
  isplitl [D13]; · iexact D13
  isplitl [D14]; · iexact D14
  isplitl [D15]; · iexact D15
  isplitl [D16]; · iexact D16
  isplitl [D17]; · iexact D17
  iexact HO

set_option maxHeartbeats 1600000 in
/-- The whole body. -/
theorem body_run {Q : PUnit → sProp 𝕄} :
    iprop(records m K ∗ levAts L lv ∗ (∃ W : Waits sig Unit, owes (c : Thread nD τ) (O₀ c) W) ∗ ghost c ∗ scratch c
        ∗ whl c cc0_stg0_0 (m.X c) ∗ whl c cc0_stg1_0 (m.R c) ∗ whl c cc0_stg2_0 (m.W1 c) ∗ whl c cc0_stg3_0 (m.W2 c) ∗ (∃ f, whl c cc0_stg4_0 f)
        ∗ ((closed c ∗ scratch c ∗ whl c cc0_stg0_0 (m.X c) ∗ whl c cc0_stg1_0 (m.R c) ∗ whl c cc0_stg2_0 (m.W1 c) ∗ whl c cc0_stg3_0 (m.W2 c)
            ∗ whl c cc0_stg4_0 (OUT m c) ∗ ow c []) -∗ Q ⟨⟩))
      ⊢ WP c ptBody Q := by
  unfold ptBody; rw [cc0_body_eq_skeleton]; unfold cc0_body_skel WP
  simp only [wp_bind]
  unfold ghost scratch kit closed
  iintro ⟨#Hrec, #Hlev, HO, ⟨Hat, Hc, HtN, HtP, ⟨M0, R3⟩, ⟨M1, R4⟩, ⟨M2, R5⟩, ⟨M6, R9⟩, ⟨M7, R10⟩, ⟨M8, R11⟩, ⟨M12, R15⟩, ⟨M13, R16⟩, ⟨M14, R17⟩⟩,
    ⟨⟨%f0, A⟩, ⟨%f1, B⟩, ⟨%f2, XA⟩, ⟨%f3, RA⟩, PSx, ⟨%f5, S⟩, ⟨%f6, rr⟩⟩, X, R, W1, W2, ⟨%fo, Hout⟩, Hk⟩
  ihave A := (Entails.of_eq (ag_slots c f0)) $$ A
  ihave B := (Entails.of_eq (rb_slots c f1)) $$ B
  ihave S := (Entails.of_eq (sb_slots c f5)) $$ S
  ihave rr := (Entails.of_eq (rr_slots c f6)) $$ rr
  icases A with ⟨A0, A1, A2, A3⟩
  icases B with ⟨B0, B1, B2, B3⟩
  icases S with ⟨S0, S1, S2⟩
  icases rr with ⟨rr0, rr1, rr2⟩
  iapply (part19 m K c)
  isplitr; · iexact Hrec
  isplitr; · iexact Hlev
  isplitl [HO]; · iexact HO
  isplitl [Hat]; · iexact Hat
  isplitl [Hc]; · iexact Hc
  isplitl [HtN]; · iexact HtN
  isplitl [HtP]; · iexact HtP
  isplitl [A1 A2 A3 B1 B2 B3 rr0 rr1 rr2]
  · unfold landing
    isplitl [A1]; · iexists _; iexact A1
    isplitl [A2]; · iexists _; iexact A2
    isplitl [A3]; · iexists _; iexact A3
    isplitl [B1]; · iexists _; iexact B1
    isplitl [B2]; · iexists _; iexact B2
    isplitl [B3]; · iexists _; iexact B3
    isplitl [rr0]; · iexists _; iexact rr0
    isplitl [rr1]; · iexists _; iexact rr1
    iexists _; iexact rr2
  isplitl [A0]; · iexists _; iexact A0
  isplitl [B0]; · iexists _; iexact B0
  isplitl [XA]
  · unfold xaPts; iexists f2
    isplitr; · ipureintro; exact XAto_zero m c f2
    iexact XA
  isplitl [RA]
  · unfold raPts; iexists f3
    isplitr; · ipureintro; exact RAto_zero m c f3
    iexact RA
  isplitl [W1]; · iexact W1
  isplitl [W2]; · iexact W2
  isplitl [X]; · iexact X
  isplitl [R]; · iexact R
  isplitl [PSx]; · iexact PSx
  isplitl [S0]; · iexists _; iexact S0
  isplitl [S1]; · iexists _; iexact S1
  isplitl [S2]; · iexists _; iexact S2
  isplitl [M0]; · iexact M0
  isplitl [M1]; · iexact M1
  isplitl [M2]; · iexact M2
  isplitl [M6]; · iexact M6
  isplitl [M7]; · iexact M7
  isplitl [M8]; · iexact M8
  isplitl [M12]; · iexact M12
  isplitl [M13]; · iexact M13
  isplitl [M14]; · iexact M14
  isplitl [R3]; · iexact R3
  isplitl [R4]; · iexact R4
  isplitl [R5]; · iexact R5
  isplitl [R9]; · iexact R9
  isplitl [R10]; · iexact R10
  isplitl [R11]; · iexact R11
  isplitl [R15]; · iexact R15
  isplitl [R16]; · iexact R16
  isplitl [R17]; · iexact R17
  iintro ⟨Hz, X, R, W1, W2, PS, XA, RA, A0, A1, A2, A3, B0, B1, B2, B3, S0, S1, S2, rr0, rr1, rr2, D0, D1, D2, D3, D4, D5, D6, D7, D8, D9, D10, D11, D12, D13, D14, D15, D16, D17, HO⟩
  simp only [Prog.lift, Prog.bind_op, Prog.bind_ret, Prog.pure_eq_ret]
  iapply (wp_load 𝒱₀ (c : Thread nD τ) none Set.univ (m := Memref.whole cc0_scratch4) (S := Finset.univ) (f := PS m c) (Finset.subset_univ _)) $$ PS
  iintro PS
  rw [ps_load (yb c 0) (off1_eq c)]
  iapply WP_ret
  iapply (wp_rr_load c 2 _ (RR m c)) $$ rr2
  iintro rr2
  rw [RR_load m c 2]
  iapply WP_ret
  iapply (wp_load 𝒱₀ (c : Thread nD τ) none Set.univ (m := Memref.whole cc0_stg4_0) (S := Finset.univ) (f := fo) (Finset.subset_univ _)) $$ Hout
  iintro Hout
  iapply WP_ret
  iapply (wp_store 𝒱₀ (c : Thread nD τ) none Set.univ (m := Memref.whole cc0_stg4_0) (r := Rect.unit (s := S128x512) ![0, 0] S128x512.size inb_S128x512_S128x512_0_0) (Mk := Finset.univ) (S := Finset.univ) (f := fo) (Finset.subset_univ _)) $$ Hout
  iintro Hout
  iapply WP_ret
  rw [out_write fo]
  iapply WP_ret
  iapply Hk
  isplitl [Hz D0 D1 D2 D3 D4 D5 D6 D7 D8 D9 D10 D11 D12 D13 D14 D15 D16 D17]
  · isplitl [Hz]; · iexact Hz
    isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    isplitl [D12]; · iexact D12
    isplitl [D13]; · iexact D13
    isplitl [D14]; · iexact D14
    isplitl [D15]; · iexact D15
    isplitl [D16]; · iexact D16
    iexact D17
  isplitl [A0 A1 A2 A3 B0 B1 B2 B3 XA RA PS S0 S1 S2 rr0 rr1 rr2]
  · isplitl [A0 A1 A2 A3]
    · iexists (AG m c); iapply (Entails.of_eq (ag_slots c (AG m c)).symm)
      isplitl [A0]; · iexact A0
      isplitl [A1]; · iexact A1
      isplitl [A2]; · iexact A2
      iexact A3
    isplitl [B0 B1 B2 B3]
    · iexists (RB m c); iapply (Entails.of_eq (rb_slots c (RB m c)).symm)
      isplitl [B0]; · iexact B0
      isplitl [B1]; · iexact B1
      isplitl [B2]; · iexact B2
      iexact B3
    isplitl [XA]; · iexists _; iexact XA
    isplitl [RA]; · iexists _; iexact RA
    isplitl [PS]; · iexists _; iexact PS
    isplitl [S0 S1 S2]
    · iexists (SB m c); iapply (Entails.of_eq (sb_slots c (SB m c)).symm)
      isplitl [S0]; · iexact S0
      isplitl [S1]; · iexact S1
      iexact S2
    iexists (RR m c); iapply (Entails.of_eq (rr_slots c (RR m c)).symm)
    isplitl [rr0]; · iexact rr0
    isplitl [rr1]; · iexact rr1
    iexact rr2
  isplitl [X]; · iexact X
  isplitl [R]; · iexact R
  isplitl [W1]; · iexact W1
  isplitl [W2]; · iexact W2
  isplitl [Hout]; · iexact Hout
  iexact HO

end Cert.KernelIdealProof

end
-- ==== Proof.Ideal.Launch.lean ====
/-
# The launch

Every device's body from what the launch gives it, the ghost state of all the devices dealt at the launch, and the run of
the whole program: on every device the result array ends at `OUT` of the launch's arguments, the arguments are as they
were, and every semaphore counter is zero.
-/
module

public import proofs.«01_k».proof.Proof.Ideal.Whole
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (μ : (ℓ : Loc nD τ sig) → Buf (Elt F) ℓ) (ρ : Dev nD → PrngReg)

/-- The state at launch: any memory, every counter zero, any generator registers. -/
def s₀ : MemSt nD τ sig (Elt F) := ⟨μ, fun _ => 0, ρ⟩

/-- The arguments' blocks as the launch copies them in. -/
def inp : Inp F where
  X c := (win0_0.blk (0 : Fin 1)).view.read (Elt F) (μ ((c : Thread nD τ).loc main_arg0))
  R c := (win0_1.blk (0 : Fin 1)).view.read (Elt F) (μ ((c : Thread nD τ).loc main_arg1))
  W1 c := (win0_2.blk (0 : Fin 1)).view.read (Elt F) (μ ((c : Thread nD τ).loc main_arg2))
  W2 c := (win0_3.blk (0 : Fin 1)).view.read (Elt F) (μ ((c : Thread nD τ).loc main_arg3))

/-! ## The one step of the launch -/

/-- What a device's body starts from: the cells' records at some names, its rights, the levels; -/
def start (c : Dev nD) : sProp 𝕄 := iprop((∃ K, records (inp μ) K) ∗ ghost c ∗ levAts L lv)
def Φ₀ (c : Dev nD) : sProp 𝕄 := iprop(start μ c ∗ scratch c)
/-- what it ends with. -/
def Φ₁ (c : Dev nD) : sProp 𝕄 := iprop(closed c ∗ scratch c)

/-- The launch's data on device `c`: what each window's staging buffer holds after the body, and the above. -/
def dats (_ : Fin 1) (c : Dev nD) : Dat τ (Elt F) Unit ℕ UU ℕ cfg0 c where
  A w := (s₀ μ ρ).mem ((cfg0.win w).arr.view.loc (c : Thread nD τ))
  after w _ := match w with
    | ⟨0, _⟩ => (inp μ).X c
    | ⟨1, _⟩ => (inp μ).R c
    | ⟨2, _⟩ => (inp μ).W1 c
    | ⟨3, _⟩ => (inp μ).W2 c
    | ⟨4, _⟩ => OUT (inp μ) c
  Φ t := match t with
    | ⟨0, _⟩ => Φ₀ μ c
    | ⟨_ + 1, _⟩ => Φ₁ c
  q _ := fullShare
  owed t := match t with
    | ⟨0, _⟩ => O₀ c
    | ⟨_ + 1, _⟩ => 0

def t₀ : Fin cfg0.N := t0_0
theorem fin_N (t : Fin cfg0.N) : t = t₀ := fin_N0 t

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ whl c b f) := by
  unfold owns; simp only [Memref.view_whole, View.read_whole, View.set_whole]

/-- Buffer `b` whole at contents equal to `X`. -/
abbrev stg (c : Dev nD) (b : Ref sig .tc) (X : b.ty.Contents (Elt F)) : sProp 𝕄 :=
  iprop(∃ f : Buf (Elt F) ((c : Thread nD τ).loc b), ⌜f = X⌝ ∗ whl c b f)

set_option maxRecDepth 4000 in
def bodyPre (c : Dev nD) : sProp 𝕄 :=
  iprop(Φ₀ μ c ∗ (dats μ ρ 0 c).owesAt () t₀.castSucc
    ∗ (∃ d, stg c cc0_stg0_0 ((dats μ ρ 0 c).before (0 : Fin 5) t₀ d))
    ∗ (∃ d, stg c cc0_stg1_0 ((dats μ ρ 0 c).before (1 : Fin 5) t₀ d))
    ∗ (∃ d, stg c cc0_stg2_0 ((dats μ ρ 0 c).before (2 : Fin 5) t₀ d))
    ∗ (∃ d, stg c cc0_stg3_0 ((dats μ ρ 0 c).before (3 : Fin 5) t₀ d))
    ∗ (∃ d, stg c cc0_stg4_0 ((dats μ ρ 0 c).before (4 : Fin 5) t₀ d)))
def bodyPost (c : Dev nD) : sProp 𝕄 :=
  iprop(Φ₁ c ∗ (dats μ ρ 0 c).owesAt () t₀.succ ∗ stg c cc0_stg0_0 ((inp μ).X c) ∗ stg c cc0_stg1_0 ((inp μ).R c)
    ∗ stg c cc0_stg2_0 ((inp μ).W1 c) ∗ stg c cc0_stg3_0 ((inp μ).W2 c) ∗ stg c cc0_stg4_0 (OUT (inp μ) c))

theorem before_0 (c : Dev nD) (d) : (dats μ ρ 0 c).before (0 : Fin 5) t₀ d = (inp μ).X c := by
  unfold Dat.before; rw [if_pos (fetch0_0 t₀)]; rfl
theorem before_1 (c : Dev nD) (d) : (dats μ ρ 0 c).before (1 : Fin 5) t₀ d = (inp μ).R c := by
  unfold Dat.before; rw [if_pos (fetch0_1 t₀)]; rfl
theorem before_2 (c : Dev nD) (d) : (dats μ ρ 0 c).before (2 : Fin 5) t₀ d = (inp μ).W1 c := by
  unfold Dat.before; rw [if_pos (fetch0_2 t₀)]; rfl
theorem before_3 (c : Dev nD) (d) : (dats μ ρ 0 c).before (3 : Fin 5) t₀ d = (inp μ).W2 c := by
  unfold Dat.before; rw [if_pos (fetch0_3 t₀)]; rfl

theorem sound_body (c : Dev nD) : bodyPre μ ρ c ⊢ WP c ptBody (fun _ => bodyPost μ ρ c) := by
  unfold bodyPre Φ₀ start Dat.owesAt Pipeline.owesWithin
  rw [show (dats μ ρ 0 c).owed t₀.castSucc = O₀ c from rfl]
  iintro ⟨⟨⟨⟨%K, #Hrec⟩, Hg, #Hlev⟩, Hscr⟩, ⟨%W, %hW, HO⟩, ⟨%d0, %f0, %h0, H0⟩, ⟨%d1, %f1, %h1, H1⟩, ⟨%d2, %f2, %h2, H2⟩, ⟨%d3, %f3, %h3, H3⟩, ⟨%d4, %f4, %h4, H4⟩⟩
  rw [before_0] at h0; rw [before_1] at h1; rw [before_2] at h2; rw [before_3] at h3
  subst h0 h1 h2 h3
  iapply (body_run (inp μ) K c)
  isplitr; · iexact Hrec
  isplitr; · iexact Hlev
  isplitl [HO]; · iexists _; iexact HO
  isplitl [Hg]; · iexact Hg
  isplitl [Hscr]; · iexact Hscr
  isplitl [H0]; · iexact H0
  isplitl [H1]; · iexact H1
  isplitl [H2]; · iexact H2
  isplitl [H3]; · iexact H3
  isplitl [H4]; · iexists _; iexact H4
  unfold ow
  iintro ⟨Hcl, Hscr, H0, H1, H2, H3, H4, ⟨%W', HO⟩⟩
  unfold bodyPost Φ₁ Dat.owesAt Pipeline.owesWithin
  rw [show (dats μ ρ 0 c).owed t₀.succ = owe c [] from rfl]
  isplitl [Hcl Hscr]
  · isplitl [Hcl]; · iexact Hcl
    iexact Hscr
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

set_option maxRecDepth 4000 in
/-- The obligation of the launch's one step on device `c`. -/
theorem body_obligation (c : Dev nD) : BodyObligation (dats (F := F) μ ρ 0 c) (defs₀ (F := F)) 𝒱₀ () Set.univ := fun t => by
  rw [fin_N t]
  rw [bigSep_W0, bigSep_W0]
  simp only [owns_whole_eq]
  exact sound_body μ ρ c

/-! ## The ghost state at launch -/

theorem ownSemFacts : Pipeline.OwnSemFacts cfg0.spec osem := by decide

theorem share_eq (c : Dev nD) (w : Fin cfg0.W) : (dats μ ρ 0 c).share w = fullShare := by unfold Dat.share; split <;> rfl

theorem csem_injective : Function.Injective csem := fun a b h => by
  cases a with
  | none => cases b with
    | none => rfl
    | some k => exact absurd h.symm (dma_ne_bar k)
  | some k => cases b with
    | none => exact absurd h (dma_ne_bar k)
    | some k' => exact congrArg some (dcell_inj h)
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
/-- Every cell of every device. -/
def ringCells : Finset (GSem nD τ sig) := Finset.univ.map ⟨kcell, kcell_injective⟩

/-- The duties of one device's cells: the barrier cell's two, and each DMA cell's. -/
abbrev Duty : Type := Bool ⊕ Fin 18
abbrev tokOf (cj : Dev nD × Duty) : GSem nD τ sig × ℕ × Bool := match cj.2 with
  | .inl b => (barCell cj.1, 0, b)
  | .inr k => (dcell cj.1 k, 0, false)
theorem tokOf_injective : Function.Injective tokOf := by
  rintro ⟨c, j⟩ ⟨c', j'⟩ h
  have h1 : c = c' := by
    have := congrArg (fun x : GSem nD τ sig × ℕ × Bool => x.1.1.1) h
    cases j <;> cases j' <;> exact this
  subst h1
  have h2 : (tokOf (c, j)).1.2 = (tokOf (c, j')).1.2 := by rw [h]
  have h3 : (tokOf (c, j)).2.2 = (tokOf (c, j')).2.2 := by rw [h]
  cases j with
  | inl b => cases j' with
    | inl b' => rw [show b = b' from h3]
    | inr k => exact absurd h2.symm (dma_ne_bar k)
  | inr k => cases j' with
    | inl b' => exact absurd h2 (dma_ne_bar k)
    | inr k' => rw [dcell_inj h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The token of one duty of a device's cells. -/
def tok (cj : Dev nD × Duty) : sProp 𝕄 := dutyTok ER (tokOf cj).1 (tokOf cj).2.1 (tokOf cj).2.2

/-- What the launch deals device `c` first: its own cells' states, positions and duty tokens. -/
def G (c : Dev nD) : sProp 𝕄 :=
  iprop((bigSep Finset.univ fun k : Option (Fin 18) => roundState ER (ringRd (inp μ)) (kcell (c, k)) 0)
    ∗ (bigSep Finset.univ fun k : Option (Fin 18) => iprop(atPos ER (kcell (c, k)) 0 ∅ 0 ∗ reached ER (kcell (c, k)) 0))
    ∗ bigSep Finset.univ fun j : Duty => tok (c, j))

theorem fund_ring : BI.own (ER (initOf ringCells ringToks)) ⊢ (|==> bigSep Finset.univ (G μ) : sProp 𝕄) := by
  have hX (Φ : GSem nD τ sig → sProp 𝕄) : bigSep ringCells Φ
      = bigSep Finset.univ fun c : Dev nD => bigSep Finset.univ fun k : Option (Fin 18) => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun j : Duty => tok (c, j) := by
    unfold ringToks; rw [bigSep_map, bigSep_univ_prod]; rfl
  iintro HX
  imod (Rounds.fund ER (ringRd (inp μ)) ringCells ringToks) $$ HX with ⟨Hst, Hr, Hat, Htok⟩
  imodintro
  ihave Hst := (Entails.of_eq (hX fun g => roundState ER (ringRd (inp μ)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- A product over the cells of a device, written out. -/
theorem bigSep_cells (Φ : Option (Fin 18) → sProp 𝕄) :
    bigSep Finset.univ Φ = iprop(Φ none ∗ Φ (some 0) ∗ Φ (some 1) ∗ Φ (some 2) ∗ Φ (some 3) ∗ Φ (some 4) ∗ Φ (some 5) ∗ Φ (some 6) ∗ Φ (some 7) ∗ Φ (some 8) ∗ Φ (some 9) ∗ Φ (some 10) ∗ Φ (some 11) ∗ Φ (some 12) ∗ Φ (some 13) ∗ Φ (some 14) ∗ Φ (some 15) ∗ Φ (some 16) ∗ Φ (some 17)) :=
  bigSep_univ_eq_bigSepL [none, some 0, some 1, some 2, some 3, some 4, some 5, some 6, some 7, some 8, some 9, some 10, some 11, some 12, some 13, some 14, some 15, some 16, some 17] (by decide) (by decide) Φ
/-- A product over the duties of a device's cells, written out. -/
theorem bigSep_duties (Φ : Duty → sProp 𝕄) :
    bigSep Finset.univ Φ = iprop(Φ (.inl false) ∗ Φ (.inl true) ∗ Φ (.inr 0) ∗ Φ (.inr 1) ∗ Φ (.inr 2) ∗ Φ (.inr 3) ∗ Φ (.inr 4) ∗ Φ (.inr 5) ∗ Φ (.inr 6) ∗ Φ (.inr 7) ∗ Φ (.inr 8) ∗ Φ (.inr 9) ∗ Φ (.inr 10) ∗ Φ (.inr 11) ∗ Φ (.inr 12) ∗ Φ (.inr 13) ∗ Φ (.inr 14) ∗ Φ (.inr 15) ∗ Φ (.inr 16) ∗ Φ (.inr 17)) :=
  bigSep_univ_eq_bigSepL ([.inl false, .inl true, .inr 0, .inr 1, .inr 2, .inr 3, .inr 4, .inr 5, .inr 6, .inr 7, .inr 8, .inr 9, .inr 10, .inr 11, .inr 12, .inr 13, .inr 14, .inr 15, .inr 16, .inr 17] : List Duty) (by decide) (by decide) Φ

theorem ownSems0_eq (c : Dev nD) : (Pipeline.ownSems0 (Ix := Unit) (Name := ℕ) (U := UU) (Lvl := ℕ) (Val := Elt F) (τ := τ) osem c : sProp 𝕄)
    = iprop(done c 0 ∗ done c 1 ∗ done c 2 ∗ done c 3 ∗ done c 4 ∗ done c 5 ∗ done c 6 ∗ done c 7 ∗ done c 8 ∗ done c 9 ∗ done c 10 ∗ done c 11 ∗ done c 12 ∗ done c 13 ∗ done c 14 ∗ done c 15 ∗ done c 16 ∗ done c 17) := by
  rw [Pipeline.ownSems0_eq_of_list c osem [0, 1, 2, 3, 4, 5, 6, 7, 8, 9, 10, 11, 12, 13, 14, 15, 16, 17] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 18) => semVal (kcell (c, k)) 0 : sProp 𝕄) := by
  rw [ownSems0_eq, unscopedSems0_eq, bigSep_cells]
  unfold done
  iintro ⟨HS, HB⟩
  isplitl [HB]; · iexact HB
  iexact HS

/-- One device's cells' invariants, allocated. -/
theorem core_alloc (c : Dev nD) :
    iprop(Pipeline.ownSems0 (Ix := Unit) (Name := ℕ) (U := UU) (Lvl := ℕ) (Val := Elt F) (τ := τ) osem c ∗ unscopedSems0 c ∗ G μ c)
      ⊢ |={Set.univ}=> iprop((bigSep Finset.univ fun k => iprop(∃ κ : ℕ, cellInv ER (ringRd (inp μ)) κ (kcell (c, k))))
          ∗ (bigSep Finset.univ fun k => iprop(atPos ER (kcell (c, k)) 0 ∅ 0 ∗ reached ER (kcell (c, k)) 0))
          ∗ bigSep Finset.univ fun j : Duty => tok (c, j)) := by
  unfold G
  iintro ⟨Hos, Hus, Hst, Hat, Htok⟩
  ihave Hv := (sems0_eq (F := F) c) $$ [Hos Hus]
  · isplitl [Hos] <;> iassumption
  imod (show iprop((bigSep Finset.univ fun k : Option (Fin 18) => semVal (kcell (c, k)) 0) ∗ bigSep Finset.univ fun k : Option (Fin 18) => roundState ER (ringRd (inp μ)) (kcell (c, k)) 0)
      ⊢ (|={Set.univ}=> bigSep Finset.univ fun k => iprop(∃ κ : ℕ, cellInv ER (ringRd (inp μ)) κ (kcell (c, k))) : sProp 𝕄) from by
        rw [← bigSep_sep']
        exact (bigSep_mono fun k _ => (Rounds.body_intro ER (ringRd (inp μ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The cells of duties another device pays: a device pays the duty `false` of the barrier cell after it, the duty `true` of
    the one before it, the receive cells after it and its own send cells. -/
def isRecv (k : Fin 18) : Bool := decide (k.val / 3 % 2 = 1)
def payer : Dev nD × Duty ≃ Dev nD × Duty where
  toFun cj := match cj.2 with
    | .inl false => (nxt cj.1, .inl false)
    | .inl true => (prv cj.1, .inl true)
    | .inr k => (bif isRecv k then nxt cj.1 else cj.1, .inr k)
  invFun cj := match cj.2 with
    | .inl false => (prv cj.1, .inl false)
    | .inl true => (nxt cj.1, .inl true)
    | .inr k => (bif isRecv k then prv cj.1 else cj.1, .inr k)
  left_inv := by
    rintro ⟨c, (_ | _) | k⟩
    · show (prv (nxt c), _) = _; rw [prv_nxt]
    · show (nxt (prv c), _) = _; rw [nxt_prv]
    · cases h : isRecv k <;> simp [h, prv_nxt]
  right_inv := by
    rintro ⟨c, (_ | _) | k⟩
    · show (nxt (prv c), _) = _; rw [nxt_prv]
    · show (prv (nxt c), _) = _; rw [prv_nxt]
    · cases h : isRecv k <;> simp [h, nxt_prv]

/-- What stays with device `c`: its positions, and the tokens of the duties it pays. -/
def linear (c : Dev nD) : sProp 𝕄 :=
  iprop((bigSep Finset.univ fun k : Option (Fin 18) => atPos ER (kcell (c, k)) 0 ∅ 0) ∗ bigSep Finset.univ fun j : Duty => tok (payer (c, j)))

theorem toks_around : (bigSep Finset.univ fun c : Dev nD => bigSep Finset.univ fun j : Duty => (tok (c, j) : sProp 𝕄))
    = bigSep Finset.univ fun c : Dev nD => bigSep Finset.univ fun j : Duty => tok (payer (c, j)) := by
  rw [← bigSep_univ_prod (fun cj : Dev nD × Duty => (tok cj : sProp 𝕄)), ← bigSep_univ_prod (fun cj : Dev nD × Duty => (tok (payer cj) : sProp 𝕄)),
    bigSep_univ_equiv payer (fun cj : Dev nD × Duty => (tok cj : sProp 𝕄))]

/-- What the allocation for all the devices at once makes of it. -/
def G' (c : Dev nD) : sProp 𝕄 := iprop((∃ K, records (inp μ) K) ∗ linear c)

theorem regroup :
    (bigSep Finset.univ fun c : Dev nD => iprop((bigSep Finset.univ fun k => iprop(∃ κ : ℕ, cellInv ER (ringRd (inp μ)) κ (kcell (c, k))))
          ∗ (bigSep Finset.univ fun k => iprop(atPos ER (kcell (c, k)) 0 ∅ 0 ∗ reached ER (kcell (c, k)) 0))
          ∗ bigSep Finset.univ fun j : Duty => tok (c, j)) : sProp 𝕄)
      ⊢ bigSep Finset.univ (G' μ) := by
  rw [bigSep_sep', bigSep_sep', ← bigSep_univ_prod (fun ck : Dev nD × Option (Fin 18) => iprop(∃ κ : ℕ, cellInv ER (ringRd (inp μ)) κ (kcell ck))),
    bigSep_congr (s := Finset.univ) (fun (c : Dev nD) _ => bigSep_sep' Finset.univ (fun k : Option (Fin 18) => (atPos ER (kcell (c, k)) 0 ∅ 0 : sProp 𝕄)) (fun k => reached ER (kcell (c, k)) 0)),
    bigSep_sep', ← bigSep_univ_prod (fun ck : Dev nD × Option (Fin 18) => (reached ER (kcell ck) 0 : sProp 𝕄)), toks_around]
  iintro ⟨HI, ⟨Hat, #HR⟩, Htok⟩
  ihave HK := (BI.bigSep_exists_pi Finset.univ (fun (ck : Dev nD × Option (Fin 18)) (κ : ℕ) => (cellInv ER (ringRd (inp μ)) κ (kcell ck) : sProp 𝕄))) $$ HI
  icases HK with ⟨%K, #HI⟩
  have each (c : Dev nD) : iprop(records (inp μ) K ∗ linear c) ⊢ G' μ c := by
    unfold G'
    iintro ⟨#HR, Hl⟩
    isplitr
    · iexists K; iexact HR
    iexact Hl
  iapply ((sep_mono_left (BI.bigSep_of_persistent (Finset.univ : Finset (Dev nD)) (records (inp μ) K))).trans
    ((Entails.of_eq (bigSep_sep' _ _ _).symm).trans (bigSep_mono fun c _ => each c)))
  isplitr
  · unfold records; isplitr; · iexact HI
    iexact HR
  · unfold linear; rw [bigSep_sep']
    isplitl [Hat]; · iexact Hat
    iexact Htok

/-- The step for all the devices at once. -/
theorem glob : (bigSep Finset.univ fun c => iprop(Pipeline.ownSems0 (Ix := Unit) (Name := ℕ) (U := UU) (Lvl := ℕ) (Val := Elt F) (τ := τ) osem c ∗ unscopedSems0 c ∗ G μ c) : sProp 𝕄)
    ⊢ |={Set.univ}=> bigSep Finset.univ (G' μ) :=
  ((bigSep_mono fun c _ => core_alloc μ c).trans (bigSep_fupd _ _)).trans (BI.fupd_mono (regroup μ))

/-! ## The credits at launch -/

theorem bar_eq_iff {a b : Dev nD} : Iff (barCell a = barCell b) (a = b) :=
  ⟨fun h => congrArg (fun g : GSem nD τ sig => g.1.1) h, fun h => h ▸ rfl⟩
theorem nxt_eq_iff {d c : Dev nD} : Iff (c = nxt d) (d = prv c) := ⟨fun h => by rw [h, prv_nxt], fun h => by rw [h, nxt_prv]⟩
theorem prv_eq_iff {d c : Dev nD} : Iff (c = prv d) (d = nxt c) := ⟨fun h => by rw [h, nxt_prv], fun h => by rw [h, prv_nxt]⟩

theorem owe_bar (d c : Dev nD) : ∀ l, owe d l (barCell c) () = 0
  | [] => rfl
  | k :: l => by
    show (owe d l + tallyAt (dcell (nxt d) k) () (amtD k.val)) (barCell c) () = 0
    rw [Pi.add_apply, Finsupp.add_apply, owe_bar d c l, tallyAt_ne_cell (fun h => dma_ne_bar k (congrArg Prod.snd h).symm), Finsupp.zero_apply, Nat.add_zero]

/-- What device `d` owes the DMA cell `k` of device `c`. -/
theorem owe_d (d c : Dev nD) (k : Fin 18) : ∀ l : List (Fin 18), l.Nodup →
    owe d l (dcell c k) () = if d = prv c then (if k ∈ l then amtD k.val else 0) else 0
  | [], _ => by show (0 : ℕ) = _; rw [if_neg (List.not_mem_nil)]; split <;> rfl
  | j :: l, h => by
    obtain ⟨hj, hl⟩ := List.nodup_cons.mp h
    show (owe d l + tallyAt (dcell (nxt d) j) () (amtD j.val)) (dcell c k) () = _
    rw [Pi.add_apply, Finsupp.add_apply, owe_d d c k l hl, tallyAt_apply]
    by_cases hd : d = prv c
    · subst hd
      rw [nxt_prv, if_pos rfl, if_pos rfl]
      by_cases hk : k = j
      · subst hk
        rw [if_neg hj, if_pos ⟨rfl, rfl⟩, if_pos List.mem_cons_self, Nat.zero_add]
      · rw [if_neg (c := dcell c k = dcell c j ∧ _) (fun h' => hk (dcell_inj (congrArg Prod.snd h'.1))), Nat.add_zero]
        simp only [List.mem_cons, hk, false_or]
    · rw [if_neg hd, if_neg (fun h' => hd (nxt_eq_iff.mp (congrArg (fun g : GSem nD τ sig => g.1.1) h'.1))), if_neg hd]

theorem owed_bar (d c : Dev nD) : O₀ d (barCell c) () = (if d = prv c then 1 else 0) + (if d = nxt c then 1 else 0) := by
  unfold O₀
  rw [Pi.add_apply, Finsupp.add_apply, Pi.add_apply, Finsupp.add_apply, owe_bar, tallyAt_apply, tallyAt_apply, Nat.zero_add]
  exact congrArg₂ (· + ·)
    (if_congr ⟨fun h => nxt_eq_iff.mp (bar_eq_iff.mp h.1), fun h => ⟨bar_eq_iff.mpr (nxt_eq_iff.mpr h), rfl⟩⟩ rfl rfl)
    (if_congr ⟨fun h => prv_eq_iff.mp (bar_eq_iff.mp h.1), fun h => ⟨bar_eq_iff.mpr (prv_eq_iff.mpr h), rfl⟩⟩ rfl rfl)

theorem owed_d (d c : Dev nD) (k : Fin 18) (hk : k ∈ oweL) : O₀ d (dcell c k) () = if d = prv c then amtD k.val else 0 := by
  unfold O₀
  rw [Pi.add_apply, Finsupp.add_apply, Pi.add_apply, Finsupp.add_apply, owe_d d c k oweL (by decide), if_pos hk,
    tallyAt_ne_cell (fun h => dma_ne_bar k (congrArg Prod.snd h)), tallyAt_ne_cell (fun h => dma_ne_bar k (congrArg Prod.snd h)),
    Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_d (c : Dev nD) (k : Fin 18) (hk : k ∈ oweL) :
    tallyOn (dcell c k) (launchCredit (Pipeline.owing O₀) 0 (dcell c k)) = (tallyAt (dcell c k) () (amtD k.val) : CellTallies nD τ sig Unit) := by
  unfold tallyAt; refine congrArg _ (Finsupp.ext fun u => ?_); cases u
  rw [Pipeline.launchCredit_owing, Finsupp.single_eq_same, Finset.sum_congr rfl fun d _ => owed_d d c k hk,
    Finset.sum_ite_eq' Finset.univ (prv c) fun _ => amtD k.val, if_pos (Finset.mem_univ _)]

/-- The credits a device waits with: its barrier cell's two units and each receive cell's transfer. -/
def credits (c : Dev nD) : sProp 𝕄 :=
  iprop(cred (tallyAt (barCell c) () 2) ∗ cred (tallyAt (dcell c 3) () (amtD (3 : Fin 18).val)) ∗ cred (tallyAt (dcell c 9) () (amtD (9 : Fin 18).val)) ∗ cred (tallyAt (dcell c 4) () (amtD (4 : Fin 18).val)) ∗ cred (tallyAt (dcell c 10) () (amtD (10 : Fin 18).val)) ∗ cred (tallyAt (dcell c 5) () (amtD (5 : Fin 18).val)) ∗ cred (tallyAt (dcell c 11) () (amtD (11 : Fin 18).val)) ∗ cred (tallyAt (dcell c 15) () (amtD (15 : Fin 18).val)) ∗ cred (tallyAt (dcell c 16) () (amtD (16 : Fin 18).val)) ∗ cred (tallyAt (dcell c 17) () (amtD (17 : Fin 18).val)))
theorem creds (c : Dev nD) : (Pipeline.launchCred O₀ c : sProp 𝕄) ⊢ credits c := by
  unfold Pipeline.launchCred credits
  refine (bigSep_subset (Finset.subset_univ ([SemLoc.reg barS, .dma (dsem 3), .dma (dsem 9), .dma (dsem 4), .dma (dsem 10), .dma (dsem 5), .dma (dsem 11), .dma (dsem 15), .dma (dsem 16), .dma (dsem 17)].toFinset : Finset (SemLoc sig)))).trans ?_
  rw [bigSep_eq_bigSepL_of_eq [SemLoc.reg barS, .dma (dsem 3), .dma (dsem 9), .dma (dsem 4), .dma (dsem 10), .dma (dsem 5), .dma (dsem 11), .dma (dsem 15), .dma (dsem 16), .dma (dsem 17)] rfl (by decide)]
  rw [← launch_bar, ← launch_d c 3 (by decide), ← launch_d c 9 (by decide), ← launch_d c 4 (by decide), ← launch_d c 10 (by decide), ← launch_d c 5 (by decide), ← launch_d c 11 (by decide), ← launch_d c 15 (by decide), ← launch_d c 16 (by decide), ← launch_d c 17 (by decide)]
  exact BI.Entails.refl _

/-- The tokens a device pays with, written out. -/
theorem pay_toks (c : Dev nD) : (bigSep Finset.univ fun j : Duty => (tok (payer (c, j)) : sProp 𝕄))
    = iprop(dutyTok ER (barCell (nxt c)) 0 false ∗ dutyTok ER (barCell (prv c)) 0 true ∗ dutyTok ER (dcell c 0) 0 false ∗ dutyTok ER (dcell c 1) 0 false ∗ dutyTok ER (dcell c 2) 0 false ∗ dutyTok ER (dcell (nxt c) 3) 0 false ∗ dutyTok ER (dcell (nxt c) 4) 0 false ∗ dutyTok ER (dcell (nxt c) 5) 0 false ∗ dutyTok ER (dcell c 6) 0 false ∗ dutyTok ER (dcell c 7) 0 false ∗ dutyTok ER (dcell c 8) 0 false ∗ dutyTok ER (dcell (nxt c) 9) 0 false ∗ dutyTok ER (dcell (nxt c) 10) 0 false ∗ dutyTok ER (dcell (nxt c) 11) 0 false ∗ dutyTok ER (dcell c 12) 0 false ∗ dutyTok ER (dcell c 13) 0 false ∗ dutyTok ER (dcell c 14) 0 false ∗ dutyTok ER (dcell (nxt c) 15) 0 false ∗ dutyTok ER (dcell (nxt c) 16) 0 false ∗ dutyTok ER (dcell (nxt c) 17) 0 false) :=
  (bigSep_duties _).trans rfl

/-- All of a device's rights together. -/
theorem ghost_intro (c : Dev nD) : iprop(linear c ∗ credits c) ⊢ (ghost c : sProp 𝕄) := by
  unfold linear credits ghost kit mayXfer rdy
  rw [bigSep_cells, pay_toks]
  iintro ⟨⟨⟨Pb, P0, P1, P2, P3, P4, P5, P6, P7, P8, P9, P10, P11, P12, P13, P14, P15, P16, P17⟩, Tf, Tt, T0, T1, T2, T3, T4, T5, T6, T7, T8, T9, T10, T11, T12, T13, T14, T15, T16, T17⟩, Cb, C3, C9, C4, C10, C5, C11, C15, C16, C17⟩
  isplitl [Pb]; · iexact Pb
  isplitl [Cb]; · iexact Cb
  isplitl [Tf]; · iexact Tf
  isplitl [Tt]; · iexact Tt
  isplitl [T0 T3 P0 P3 C3]
  · isplitl [T0 T3 P0]
    · isplitl [T0]; · iexact T0
      isplitl [T3]; · iexact T3
      iexact P0
    isplitl [P3]; · iexact P3
    iexact C3
  isplitl [T1 T4 P1 P4 C4]
  · isplitl [T1 T4 P1]
    · isplitl [T1]; · iexact T1
      isplitl [T4]; · iexact T4
      iexact P1
    isplitl [P4]; · iexact P4
    iexact C4
  isplitl [T2 T5 P2 P5 C5]
  · isplitl [T2 T5 P2]
    · isplitl [T2]; · iexact T2
      isplitl [T5]; · iexact T5
      iexact P2
    isplitl [P5]; · iexact P5
    iexact C5
  isplitl [T6 T9 P6 P9 C9]
  · isplitl [T6 T9 P6]
    · isplitl [T6]; · iexact T6
      isplitl [T9]; · iexact T9
      iexact P6
    isplitl [P9]; · iexact P9
    iexact C9
  isplitl [T7 T10 P7 P10 C10]
  · isplitl [T7 T10 P7]
    · isplitl [T7]; · iexact T7
      isplitl [T10]; · iexact T10
      iexact P7
    isplitl [P10]; · iexact P10
    iexact C10
  isplitl [T8 T11 P8 P11 C11]
  · isplitl [T8 T11 P8]
    · isplitl [T8]; · iexact T8
      isplitl [T11]; · iexact T11
      iexact P8
    isplitl [P11]; · iexact P11
    iexact C11
  isplitl [T12 T15 P12 P15 C15]
  · isplitl [T12 T15 P12]
    · isplitl [T12]; · iexact T12
      isplitl [T15]; · iexact T15
      iexact P12
    isplitl [P15]; · iexact P15
    iexact C15
  isplitl [T13 T16 P13 P16 C16]
  · isplitl [T13 T16 P13]
    · isplitl [T13]; · iexact T13
      isplitl [T16]; · iexact T16
      iexact P13
    isplitl [P16]; · iexact P16
    iexact C16
  isplitl [T14 T17 P14]
  · isplitl [T14]; · iexact T14
    isplitl [T17]; · iexact T17
    iexact P14
  isplitl [P17]; · iexact P17
  iexact C17

/-! ## The side conditions of the launch, and the run -/

theorem start_intro (c : Dev nD) :
    iprop(Pipeline.unscopedRestP Pipeline.Prefetch.none cfg0.spec c (fun b => μ ((c : Thread nD τ).loc b)) ∗ levAts L lv
        ∗ Pipeline.launchCred O₀ c ∗ prngReg c (ρ c) ∗ G' μ c)
      ⊢ |={Set.univ}=> iprop(start μ c ∗ emp) := by
  iintro ⟨-, Hlev, Hcr, -, HG⟩
  ihave Hc := (creds (F := F) c) $$ Hcr
  imodintro
  unfold start G'
  icases HG with ⟨HK, Hl⟩
  isplitl
  · isplitl [HK]; · iexact HK
    isplitl [Hl Hc]
    · iapply (ghost_intro (F := F) c)
      isplitl [Hl]; · iexact Hl
      iexact Hc
    iexact Hlev
  · iempintro

theorem phi0_intro (c : Dev nD) :
    iprop(start μ c ∗ Pipeline.prefHeld Pipeline.Prefetch.none c (fun _ => fullShare.right) (fun k => k.elim0) ∗ Pipeline.scopedRest cfg0.spec c)
      ⊢ (dats μ ρ 0 c).Φ 0 := by
  rw [show (dats μ ρ 0 c).Φ 0 = Φ₀ μ c from rfl, scopedRest0_eq]
  unfold Φ₀ scratch
  iintro ⟨Hs, -, Hr⟩
  isplitl [Hs]; · iexact Hs
  iexact Hr

theorem phi1_exit (c : Dev nD) :
    (dats μ ρ 0 c).Φ (Fin.last cfg0.N) ⊢ iprop(unscopedSems0 c ∗ Pipeline.ownSems0 osem c ∗ Pipeline.scopedRest cfg0.spec c) := by
  rw [show (dats μ ρ 0 c).Φ (Fin.last cfg0.N) = Φ₁ c from rfl, scopedRest0_eq, ownSems0_eq, unscopedSems0_eq]
  unfold Φ₁ closed scratch
  iintro ⟨⟨HzB, Hz⟩, Hr⟩
  isplitl [HzB]; · iexact HzB
  isplitl [Hz]; · iexact Hz
  iexact Hr

theorem waits (c : Dev nD) : (levAts L lv : sProp 𝕄) ⊢ Pipeline.cellsWaits cfgs (dats μ ρ) () 0 c :=
  Pipeline.cellsWaits_intro cfgs (dats μ ρ) () 0 c fun w s t =>
    mayWait_stage c _ (by fin_cases w <;> fin_cases s <;> decide) _ (by
      rcases t with ⟨_ | _, ht⟩
      · exact Or.inl rfl
      · exact Or.inr rfl)

/-- The array of window `w` after the run. -/
def finalA (c : Dev nD) (w : Fin cfg0.W) : Buf (Elt F) ((cfg0.win w).arr.view.loc (c : Thread nD τ)) := (dats μ ρ 0 c).arrAt w cfg0.N

def QC : PUnit × MemSt nD τ sig (Elt F) → Prop := fun r =>
  ∀ c : Dev nD, ∀ w : Fin cfg0.W, r.2.mem ((cfg0.win w).arr.view.loc (c : Thread nD τ)) = finalA μ ρ c w

set_option maxRecDepth 8000 in
/-- From any memory with zero counters the program ends on every device, with each window's array at its final contents and
    every counter zero. -/
theorem run_main : θ_run defs (onTc (τ := τ) (main (F := F))) (s₀ μ ρ) (fun r => QC μ ρ r ∧ r.2.sem = fun _ => 0) :=
  Pipeline.θ_run_region_owing_glob_pf (fun p => (cfgs p).toPCfg) (fun p => (cfgs p).toPCfg_adm) (dats μ ρ) () cellOf_inj (0 : Fin 1)
    winFacts0.to₀ ownSemFacts (Pipeline.PreFacts.none _) EP defs₀ 𝒱₀ μ ρ main
    (hmain := fun _ => rfl)
    (hbody := body_obligation μ ρ) (hne := fun w => by fin_cases w <;> exact Nat.succ_pos _) (harr := arr_whole0) (hstage := stage_whole0) (hshare := share_eq μ ρ)
    (hdistinct := winFacts0.arr_inj)
    (O₀ := O₀) (howed₀ := fun _ => rfl) (howedN := fun _ => rfl)
    (L := L) (lv := lv) (hL := L_of_ne) (hwaits := waits μ ρ)
    (G := G μ) (G' := G' μ) (u₀ := u₀)
    (hu₀ := by
      unfold u₀
      iintro Hu
      ihave H := (ownU_pair _ _) $$ Hu
      icases H with ⟨HP, HX⟩
      imod (fund_ring μ) $$ HX with HG
      imodintro
      isplitl [HP] <;> iassumption)
    (hglob := glob μ)
    (hA := fun _ _ => rfl) (hpf := fun _ k => k.elim0)
    (X := start μ) (Y := fun c => unscopedSems0 c) (Z := fun _ => iprop(emp))
    (hX := start_intro μ ρ) (hin := phi0_intro μ ρ) (hout := phi1_exit μ ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays before and after -/

/-- A window's block is its whole array: its elements lie where they lie in the array. -/
theorem blk0_emb (y : S128x512.Idx) : (win0_0.blk (0 : Fin 1)).view.emb y = y :=
  funext fun a => Fin.ext (by show 0 * _ + 1 * (y a).val = (y a).val; omega)
theorem blk1_emb (y : S512x2.Idx) : (win0_1.blk (0 : Fin 1)).view.emb y = y :=
  funext fun a => Fin.ext (by show 0 * _ + 1 * (y a).val = (y a).val; omega)
theorem blk2_emb (y : S2x512x1024.Idx) : (win0_2.blk (0 : Fin 1)).view.emb y = y :=
  funext fun a => Fin.ext (by show 0 * _ + 1 * (y a).val = (y a).val; omega)
theorem blk3_emb (y : S2x1024x512.Idx) : (win0_3.blk (0 : Fin 1)).view.emb y = y :=
  funext fun a => Fin.ext (by show 0 * _ + 1 * (y a).val = (y a).val; omega)
theorem blk4_emb (t : Fin cfg0.N) (y : S128x512.Idx) : ((cfg0.win (4 : Fin 5)).blk t).view.emb y = y :=
  funext fun a => Fin.ext (by show 0 * _ + 1 * (y a).val = (y a).val; omega)

/-- What the copies in read is the arguments' arrays. -/
theorem inp_X (c : Dev nD) : (inp μ).X c = μ ((c : Thread nD τ).loc main_arg0) := funext fun y => congrArg (μ ((c : Thread nD τ).loc main_arg0)) (blk0_emb y)
theorem inp_R (c : Dev nD) : (inp μ).R c = μ ((c : Thread nD τ).loc main_arg1) := funext fun y => congrArg (μ ((c : Thread nD τ).loc main_arg1)) (blk1_emb y)
theorem inp_W1 (c : Dev nD) : (inp μ).W1 c = μ ((c : Thread nD τ).loc main_arg2) := funext fun y => congrArg (μ ((c : Thread nD τ).loc main_arg2)) (blk2_emb y)
theorem inp_W2 (c : Dev nD) : (inp μ).W2 c = μ ((c : Thread nD τ).loc main_arg3) := funext fun y => congrArg (μ ((c : Thread nD τ).loc main_arg3)) (blk3_emb y)

theorem final_out (c : Dev nD) : finalA μ ρ c (4 : Fin 5) = OUT (inp μ) c := by
  refine (dats (F := F) μ ρ 0 c).arrAt_eq_of_cover (4 : Fin 5) (OUT (inp μ) c) (fun t _ => ?_) fun i => ⟨t₀, flush0_4 _, ?_⟩
  · funext y
    refine Eq.trans ?_ (congrArg (OUT (inp μ) c) (blk4_emb t y)).symm
    rfl
  · have h := ((cfg0.win (4 : Fin 5)).blk t₀).view.emb_mem_set i
    rw [blk4_emb] at h
    exact h

/-- The run in terms of the arrays: the result of device `c` is `OUT` of the arguments' arrays, these are unchanged, and
    every counter is zero. -/
theorem run_values : θ_run defs (onTc (τ := τ) (main (F := F))) ⟨μ, fun _ => 0, ρ⟩ (fun r =>
    (∀ c : Dev nD, r.2.mem ((c.tc : Thread nD τ).loc main_v1) = OUT (inp μ) c
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3))
    ∧ r.2.sem = fun _ => 0) :=
  (θ_run defs _ _).mono (fun _ h => ⟨fun c => ⟨(h.1 c (4 : Fin 5)).trans (final_out μ ρ c),
    (h.1 c (0 : Fin 5)).trans ((dats (F := F) μ ρ 0 c).arrAt_in (0 : Fin 5) rfl _),
    (h.1 c (1 : Fin 5)).trans ((dats (F := F) μ ρ 0 c).arrAt_in (1 : Fin 5) rfl _),
    (h.1 c (2 : Fin 5)).trans ((dats (F := F) μ ρ 0 c).arrAt_in (2 : Fin 5) rfl _),
    (h.1 c (3 : Fin 5)).trans ((dats (F := F) μ ρ 0 c).arrAt_in (3 : Fin 5) rfl _)⟩, h.2⟩) (run_main μ ρ)

end Cert.KernelIdealProof

end
-- ==== Proof.Value.Choice.lean ====
/-
# One row's choice of two experts

The mathematics of one row over the extended reals: eight gates of which one is the greatest and one the second, the
softmax weights of these two, and the sum over the experts both programs compute. Nothing here is about a program.
-/
module

public import Idealize.ShloMosaic.PureOps.Ideal
public import Idealize.ShloMosaic.Lib.Pointwise

@[expose] public section

noncomputable section

namespace Cert.Choice

open Idealize.ShloMosaic

/-! ## Words -/

/-- The word of `-∞`. -/
theorem ofBits_negInf : Ideal.ofBits .f32 0xFF800000#32 = ⊥ := by simp [Ideal.ofBits, Ideal.ieee]
/-- The word of `+∞`. -/
theorem ofBits_posInf : Ideal.ofBits .f32 0x7F800000#32 = ⊤ := by simp [Ideal.ofBits, Ideal.ieee]
theorem and_one (a b : BitVec 1) : IntOp.andi a b = 1#1 ↔ a = 1#1 ∧ b = 1#1 := by revert a b; decide
theorem ofBool_one (p : Prop) [Decidable p] : BitVec.ofBool (decide p) = 1#1 ↔ p := by
  by_cases h : p <;> simp [h]

/-! ## A first and a second -/

/-- `p` has the greatest gate, below `+∞`; `q` the second; every other gate is below `q`'s. -/
structure Top2 (g : Fin 8 → EReal) (p q : Fin 8) : Prop where
  ne : q ≠ p
  lt_top : g p < ⊤
  fst : ∀ e, e ≠ p → g e < g p
  snd : ∀ e, e ≠ p → e ≠ q → g e < g q

/-- How many gates are above `e`'s. -/
def above (g : Fin 8 → EReal) (e : Fin 8) : ℕ := (Finset.univ.filter fun e' => g e < g e').card

/-- Exactly one gate with none above it, exactly one with one above it, the greatest below `+∞`: a first and a second. -/
theorem exists_top2 (g : Fin 8 → EReal) (h0 : (Finset.univ.filter fun e => above g e = 0).card = 1)
    (h1 : (Finset.univ.filter fun e => above g e = 1).card = 1) (ht : ∀ e, g e < ⊤) : ∃ p q, Top2 g p q := by
  obtain ⟨p, hp⟩ := Finset.card_eq_one.1 h0
  obtain ⟨q, hq⟩ := Finset.card_eq_one.1 h1
  have hp' : ∀ e, above g e = 0 ↔ e = p := fun e => by simpa using Finset.ext_iff.1 hp e
  have hq' : ∀ e, above g e = 1 ↔ e = q := fun e => by simpa using Finset.ext_iff.1 hq e
  have hmax : ∀ e, g e ≤ g p := fun e => by
    have h : above g p = 0 := (hp' p).2 rfl
    by_contra hlt
    rw [above, Finset.card_eq_zero] at h
    exact absurd (h ▸ Finset.mem_filter.2 ⟨Finset.mem_univ e, not_le.1 hlt⟩) (Finset.notMem_empty e)
  have hlt : ∀ e, e ≠ p → g e < g p := fun e he => by
    have h : above g e ≠ 0 := fun h => he ((hp' e).1 h)
    obtain ⟨e', he'⟩ := Finset.card_pos.1 (Nat.pos_of_ne_zero h)
    exact lt_of_lt_of_le (Finset.mem_filter.1 he').2 (hmax e')
  refine ⟨p, q, ?_, ht p, hlt, fun e he heq => ?_⟩
  · rintro rfl
    have a := (hp' q).2 rfl
    have b := (hq' q).2 rfl
    omega
  · by_contra hge
    have h0 : above g e ≠ 0 := fun h => he ((hp' e).1 h)
    have h1 : above g e ≠ 1 := fun h => heq ((hq' e).1 h)
    have hle : above g e ≤ above g q :=
      Finset.card_le_card fun e' h' => Finset.mem_filter.2 ⟨Finset.mem_univ e', lt_of_le_of_lt (not_lt.1 hge) (Finset.mem_filter.1 h').2⟩
    have hqq := (hq' q).2 rfl
    omega

/-! ## The kernel's weights -/

/-- The greatest of eight. -/
def most (g : Fin 8 → EReal) : EReal := Finset.univ.fold max ⊥ g
/-- The gates with those equal to the greatest put to `-∞`. -/
def rest (g : Fin 8 → EReal) (e : Fin 8) : EReal := if g e = most g then ⊥ else g e
/-- The second's odds against the first. -/
def odds (g : Fin 8 → EReal) : EReal := Ideal.exp (most (rest g) - most g)
/-- The weight the kernel gives expert `e`. -/
def weight (g : Fin 8 → EReal) (e : Fin 8) : EReal :=
  if g e = most g then Ideal.div 1 (1 + odds g) else if rest g e = most (rest g) then Ideal.div (odds g) (1 + odds g) else 0

theorem most_eq (g : Fin 8 → EReal) (p : Fin 8) (h : ∀ e, g e ≤ g p) : most g = g p := by
  apply le_antisymm
  · exact (Finset.fold_max_le (g p)).2 ⟨bot_le, fun e _ => h e⟩
  · exact (Finset.le_fold_max (g p)).2 (Or.inr ⟨p, Finset.mem_univ p, le_rfl⟩)

namespace Top2
variable {g : Fin 8 → EReal} {p q : Fin 8} (T : Top2 g p q)
include T

theorem le (e : Fin 8) : g e ≤ g p := by
  by_cases h : e = p
  · rw [h]
  · exact (T.fst e h).le

theorem most_eq : most g = g p := Choice.most_eq g p T.le

theorem eq_most (e : Fin 8) : g e = most g ↔ e = p := by
  rw [T.most_eq]
  exact ⟨fun h => by by_contra he; exact absurd h (T.fst e he).ne, fun h => by rw [h]⟩

/-- Some expert is neither of the two, so the second's gate is above `-∞`. -/
theorem bot_lt : ⊥ < g q := by
  have h : ∀ p q : Fin 8, ∃ e : Fin 8, e ≠ p ∧ e ≠ q := by decide
  obtain ⟨e, hp, hq⟩ := h p q
  exact lt_of_le_of_lt bot_le (T.snd e hp hq)

theorem rest_eq (e : Fin 8) : rest g e = if e = p then ⊥ else g e := by
  unfold rest
  exact if_congr (T.eq_most e) rfl rfl

theorem most_rest : most (rest g) = g q := by
  have hq : rest g q = g q := by rw [T.rest_eq, if_neg T.ne]
  rw [← hq]
  refine Choice.most_eq _ q fun e => ?_
  rw [hq, T.rest_eq]
  split
  · exact bot_le
  · next he =>
    by_cases hq : e = q
    · rw [hq]
    · exact (T.snd e he hq).le

theorem rest_eq_most (e : Fin 8) (he : e ≠ p) : rest g e = most (rest g) ↔ e = q := by
  rw [T.most_rest, T.rest_eq, if_neg he]
  exact ⟨fun h => by by_contra hq; exact absurd h (T.snd e he hq).ne, fun h => by rw [h]⟩

theorem odds_eq : odds g = Ideal.exp (g q - g p) := by unfold odds; rw [T.most_rest, T.most_eq]

/-- The odds are a positive real. -/
theorem exists_odds : ∃ b : ℝ, 0 < b ∧ odds g = (b : EReal) := by
  have hp : g p ≠ ⊤ := T.lt_top.ne
  have hp' : g p ≠ ⊥ := (lt_trans T.bot_lt (T.fst q T.ne)).ne'
  have hq : g q ≠ ⊤ := (lt_trans (T.fst q T.ne) T.lt_top).ne
  have hq' : g q ≠ ⊥ := T.bot_lt.ne'
  rw [T.odds_eq]
  lift g q to ℝ using ⟨hq, hq'⟩ with b
  lift g p to ℝ using ⟨hp, hp'⟩ with a
  exact ⟨Real.exp (b - a), Real.exp_pos _, by rw [← EReal.coe_sub, Ideal.exp_coe]⟩

/-- The greatest gate's distance to itself is nothing, and weighs one. -/
theorem exp_self : Ideal.exp (g p - g p) = 1 := by
  have hp : g p ≠ ⊤ := T.lt_top.ne
  have hp' : g p ≠ ⊥ := (lt_trans T.bot_lt (T.fst q T.ne)).ne'
  lift g p to ℝ using ⟨hp, hp'⟩ with a
  rw [← EReal.coe_sub, sub_self, Ideal.exp_coe, Real.exp_zero, EReal.coe_one]

theorem weight_eq (e : Fin 8) :
    weight g e = if e = p then Ideal.div 1 (1 + odds g) else if e = q then Ideal.div (odds g) (1 + odds g) else 0 := by
  unfold weight
  by_cases hp : e = p
  · rw [if_pos ((T.eq_most e).2 hp), if_pos hp]
  · rw [if_neg (fun h => hp ((T.eq_most e).1 h)), if_neg hp]
    exact if_congr (T.rest_eq_most e hp) rfl rfl

/-- Every weight is a nonnegative real. -/
theorem weight_real (e : Fin 8) : 0 ≤ weight g e ∧ weight g e ≠ ⊤ := by
  obtain ⟨b, hb, h⟩ := T.exists_odds
  have h1 : (1 : EReal) + (b : EReal) = ((1 + b : ℝ) : EReal) := by rw [EReal.coe_add, EReal.coe_one]
  have hd : ∀ a : ℝ, 0 ≤ a → 0 ≤ Ideal.div (a : EReal) ((1 + b : ℝ) : EReal) ∧ Ideal.div (a : EReal) ((1 + b : ℝ) : EReal) ≠ ⊤ := fun a ha => by
    rw [Ideal.div_coe (by positivity), ← EReal.coe_mul]
    exact ⟨by exact_mod_cast (by positivity : 0 ≤ a * (1 / (1 + b))), EReal.coe_ne_top _⟩
  rw [T.weight_eq, h, h1]
  split
  · simpa using hd 1 zero_le_one
  · split
    · exact hd b hb.le
    · exact ⟨le_rfl, EReal.zero_ne_top⟩

/-- A sum over the experts by their weights has two terms. -/
theorem sum_weight (y : Fin 8 → EReal) : ∑ e, y e * weight g e = y p * weight g p + y q * weight g q := by
  have hz : ∀ e, e ≠ p → e ≠ q → y e * weight g e = 0 := fun e hp hq => by
    rw [T.weight_eq, if_neg hp, if_neg hq, mul_zero]
  rw [← Finset.add_sum_erase _ _ (Finset.mem_univ p), ← Finset.add_sum_erase (Finset.univ.erase p) _ (Finset.mem_erase.2 ⟨T.ne, Finset.mem_univ q⟩),
    Finset.sum_eq_zero (s := (Finset.univ.erase p).erase q) fun e he => hz e (Finset.mem_erase.1 (Finset.mem_erase.1 he).2).1 (Finset.mem_erase.1 he).1, add_zero]

end Top2

/-- A nonnegative real factor leaves a sum of products. -/
theorem sum_mul_real {n : ℕ} (u B : Fin n → EReal) (w : EReal) (h : 0 ≤ w) (ht : w ≠ ⊤) :
    ∑ f, u f * w * B f = (∑ f, u f * B f) * w := by
  have key : ∀ s : Finset (Fin n), ∑ f ∈ s, u f * w * B f = (∑ f ∈ s, u f * B f) * w := fun s => by
    induction s using Finset.induction_on with
    | empty => rw [Finset.sum_empty, Finset.sum_empty, zero_mul]
    | insert a s ha ih =>
      rw [Finset.sum_insert ha, Finset.sum_insert ha, ih, EReal.right_distrib_of_nonneg_of_ne_top h ht, mul_right_comm]
  exact key _

/-! ## One row of the result -/

/-- The gate of expert `e` in row `t`. -/
def gate (X : Fin 512 → Fin 512 → EReal) (R : Fin 512 → Fin 8 → EReal) (t : Fin 512) (e : Fin 8) : EReal := ∑ k, X t k * R k e
/-- Column `j` of expert `e`'s answer to row `t`. -/
def answer (X : Fin 512 → Fin 512 → EReal) (A : Fin 8 → Fin 512 → Fin 1024 → EReal) (B : Fin 8 → Fin 1024 → Fin 512 → EReal)
    (t : Fin 512) (j : Fin 512) (e : Fin 8) : EReal := ∑ f, max (∑ k, X t k * A e k f) 0 * B e f j

end Cert.Choice
-- ==== Proof.Value.Payload.lean ====
/-
# The kernel's result at an index

The kernel's arithmetic read element by element: the gates, the weights, a device's partial sum over its two experts, and
the sum of the four partial sums of a ring. Over the blocks of whole arrays, an element of the result is the sum over the
eight experts of the expert's answer by its weight.
-/
module

public import proofs.«01_k».proof.Proof.Ideal.Ring
public import proofs.«01_k».proof.Proof.Value.Choice
public import Idealize.ShloMosaic.Lib.Pointwise

@[expose] public section

noncomputable section

namespace Cert.KernelValue

open Cert.KernelIdeal Cert.KernelIdeal.Gen Cert.KernelIdealProof Cert.Choice
open Idealize.ShloMosaic

/-! ## The gates and the weights -/

theorem pay13_apply (x : Vec Ideal S512x512 .f32) (v : Fin 4 → Vec Ideal S1x512x2 .f32) (t : Fin 512) (e : Fin 8) :
    k0_pay13 x (v 0) (v 1) (v 2) (v 3) (ix2 t e)
      = ∑ k : Fin 512, x (ix2 t k) * v ⟨e.val / 2, by omega⟩ (ix3 (0 : Fin 1) k (⟨e.val % 2, by omega⟩ : Fin 2)) := by
  fin_cases e <;> pointwise [k0_pay13]

/-- The kernel's weights are `weight` of its gates. -/
theorem pay20_apply (x : Vec Ideal S512x512 .f32) (r0 r1 r2 r3 : Vec Ideal S1x512x2 .f32) (t : Fin 512) (e : Fin 8) :
    k0_pay20 (k0_pay15 x r0 r1 r2 r3) (k0_pay16 x r0 r1 r2 r3) (k0_pay17 x r0 r1 r2 r3) (k0_pay18 x r0 r1 r2 r3)
      (k0_pay19 x r0 r1 r2 r3) one32 (ix2 t e) = weight (fun e => k0_pay13 x r0 r1 r2 r3 (ix2 t e)) e := by
  pointwise [k0_pay20, k0_pay19, k0_pay18, k0_pay17, k0_pay16, k0_pay15, k0_pay14, one32]
  simp only [ofBits_negInf]
  rfl

/-! ## A device's two experts -/

/-- The expert a device holds at place `k`, by the device's middle coordinate. -/
def own (y : Fin 4) (k : Fin 2) : Fin 8 := ⟨2 * y.val + k.val, by omega⟩

theorem yw_eq (c : Dev nD) : yw c = BitVec.ofNat 32 (yb c 0).val := by revert c; decide +kernel

theorem hit (k : Fin 2) (y : Fin 4) (e : Fin 8) :
    IntOp.cmpi .eq (BitVec.ofNat 32 e.val) (Scalar.addi (Scalar.muli 2#32 (BitVec.ofNat 32 y.val)) (BitVec.ofNat 32 k.val))
      = BitVec.ofBool (decide (e = own y k)) := by revert k y e; decide +kernel

/-- Summing the column the kernel selects leaves that expert's entry. -/
theorem sum_hit (k : Fin 2) (y : Fin 4) (v : Fin 8 → EReal) :
    ∑ e : Fin 8, Scalar.select (IntOp.cmpi .eq (BitVec.ofNat 32 e.val)
        (Scalar.addi (Scalar.muli 2#32 (BitVec.ofNat 32 y.val)) (BitVec.ofNat 32 k.val))) (v e) (0 : EReal) = v (own y k) := by
  have h : ∀ e : Fin 8, Scalar.select (IntOp.cmpi .eq (BitVec.ofNat 32 e.val)
        (Scalar.addi (Scalar.muli 2#32 (BitVec.ofNat 32 y.val)) (BitVec.ofNat 32 k.val))) (v e) (0 : EReal)
      = if e = own y k then v e else 0 := fun e => by
    rw [hit]
    by_cases he : e = own y k
    · rw [if_pos he, decide_eq_true he]; rfl
    · rw [if_neg he, decide_eq_false he]; rfl
  rw [Finset.sum_congr rfl fun e _ => h e, Finset.sum_ite_eq' Finset.univ (own y k) v, if_pos (Finset.mem_univ _)]

/-! ## Blocks of whole arrays -/

/-- The kernel's inputs are the blocks of four whole arrays the devices hold by their middle coordinates: rows of `X`,
    columns of `R`, experts of `A` and of `B`. -/
structure Blocks (m : Inp Ideal) (X : Fin 512 → Fin 512 → EReal) (R : Fin 512 → Fin 8 → EReal)
    (A : Fin 8 → Fin 512 → Fin 1024 → EReal) (B : Fin 8 → Fin 1024 → Fin 512 → EReal) : Prop where
  x : ∀ c (r : Fin 128) k, m.X c (ix2 r k) = X ⟨128 * (yb c 0).val + r.val, by omega⟩ k
  r : ∀ c k i, m.R c (ix2 k i) = R k (own (yb c 0) i)
  a : ∀ c i k f, m.W1 c (ValueIdx.ix3 i k f) = A (own (yb c 0) i) k f
  b : ∀ c i f j, m.W2 c (ValueIdx.ix3 i f j) = B (own (yb c 0) i) f j

theorem yb_at (c : Dev nD) (o : Fin 4) : yb (at_ c o) 0 = o := by revert c o; decide +kernel

variable {m : Inp Ideal} {X : Fin 512 → Fin 512 → EReal} {R : Fin 512 → Fin 8 → EReal}
  {A : Fin 8 → Fin 512 → Fin 1024 → EReal} {B : Fin 8 → Fin 1024 → Fin 512 → EReal}

namespace Blocks
variable (H : Blocks m X R A B)
include H

theorem XA_apply (c : Dev nD) (t k : Fin 512) : XA m c (ix2 t k) = X t k := by
  show m.X _ (ix2 _ k) = _
  rw [H.x]
  simp only [yb_at]
  exact congrArg (fun t => X t k) (Fin.ext (Nat.div_add_mod t.val 128))

theorem raAt_apply (c : Dev nD) (o : Fin 4) (k : Fin 512) (i : Fin 2) : raAt m c o (ix3 (0 : Fin 1) k i) = R k (own o i) := by
  pointwise [raAt, k0_pay3]
  rw [H.r, yb_at]

theorem gate_apply (c : Dev nD) (t : Fin 512) (e : Fin 8) :
    k0_pay13 (XA m c) (raAt m c 0) (raAt m c 1) (raAt m c 2) (raAt m c 3) (ix2 t e) = gate X R t e := by
  rw [pay13_apply (XA m c) (raAt m c)]
  refine Finset.sum_congr rfl fun k _ => ?_
  rw [H.XA_apply, H.raAt_apply]
  exact congrArg (fun e => X t k * R k e) (Fin.ext (Nat.div_add_mod e.val 2))

/-- A device's partial sum: its two experts' answers, each by its weight. -/
theorem PS_apply (c : Dev nD) (t j : Fin 512) {p q : Fin 8} (T : Top2 (gate X R t) p q) :
    PS m c (ix2 t j) = answer X A B t j (own (yb c 0) 0) * weight (gate X R t) (own (yb c 0) 0)
      + answer X A B t j (own (yb c 0) 1) * weight (gate X R t) (own (yb c 0) 1) := by
  unfold PS
  pointwise [k0_pay23, k0_pay22, k0_pay21, w1At, w2At]
  simp only [pay20_apply, H.gate_apply, yw_eq, H.XA_apply, H.a, H.b]
  have h0 := sum_hit 0 (yb c 0) (weight fun e => gate X R t e)
  have h1 := sum_hit 1 (yb c 0) (weight fun e => gate X R t e)
  simp only [Fin.val_zero, Fin.val_one] at h0 h1
  rw [h0, h1]
  exact congrArg₂ (· + ·) (sum_mul_real (fun f => max (∑ k, X t k * A (own (yb c 0) 0) k f) 0) (fun f => B (own (yb c 0) 0) f j) _ (T.weight_real _).1 (T.weight_real _).2)
    (sum_mul_real (fun f => max (∑ k, X t k * A (own (yb c 0) 1) k f) 0) (fun f => B (own (yb c 0) 1) f j) _ (T.weight_real _).1 (T.weight_real _).2)

end Blocks

/-! ## The ring's sum -/

theorem yb_prv1 (c : Dev nD) : yb (prv c) 3 = yb c 0 ∧ yb (prv c) 0 = yb c 0 - 1 := by revert c; decide +kernel
theorem yb_prv2 (c : Dev nD) : yb (prv (prv c)) 2 = yb c 0 ∧ yb (prv (prv c)) 0 = yb c 0 - 2 := by revert c; decide +kernel
theorem yb_prv3 (c : Dev nD) : yb (prv (prv (prv c))) 1 = yb c 0 ∧ yb (prv (prv (prv c))) 0 = yb c 0 - 3 := by revert c; decide +kernel

/-- The four devices of a ring hold the eight experts. -/
theorem sum_ring (y : Fin 4) (v : Fin 8 → EReal) :
    v (own y 0) + v (own y 1) + (v (own (y - 1) 0) + v (own (y - 1) 1) + (v (own (y - 2) 0) + v (own (y - 2) 1)
      + (v (own (y - 3) 0) + v (own (y - 3) 1)))) = ∑ e, v e := by
  rw [Fin.sum_univ_eight]
  match y with
  | 0 => show v 0 + v 1 + (v 6 + v 7 + (v 4 + v 5 + (v 2 + v 3))) = _; ac_rfl
  | 1 => show v 2 + v 3 + (v 0 + v 1 + (v 6 + v 7 + (v 4 + v 5))) = _; ac_rfl
  | 2 => show v 4 + v 5 + (v 2 + v 3 + (v 0 + v 1 + (v 6 + v 7))) = _; ac_rfl
  | 3 => show v 6 + v 7 + (v 4 + v 5 + (v 2 + v 3 + (v 0 + v 1))) = _; ac_rfl

theorem Blocks.OUT_apply (H : Blocks m X R A B) (c : Dev nD) (r : Fin 128) (j : Fin 512) {p q : Fin 8}
    (T : Top2 (gate X R ⟨128 * (yb c 0).val + r.val, by omega⟩) p q) :
    OUT m c (ix2 r j) = ∑ e, answer X A B ⟨128 * (yb c 0).val + r.val, by omega⟩ j e
      * weight (gate X R ⟨128 * (yb c 0).val + r.val, by omega⟩) e := by
  unfold OUT sb
  pointwise [k0_pay1, k0_pay26, k0_pay25, k0_pay24, rowsOf]
  simp only [(yb_prv1 c).1, (yb_prv2 c).1, (yb_prv3 c).1]
  have e := fun c' => H.PS_apply c' _ j T
  refine (congrArg₂ (· + ·) (e c) (congrArg₂ (· + ·) (e (prv c)) (congrArg₂ (· + ·) (e (prv (prv c))) (e (prv (prv (prv c))))))).trans ?_
  rw [(yb_prv1 c).2, (yb_prv2 c).2, (yb_prv3 c).2]
  exact sum_ring (yb c 0) fun e => answer X A B _ j e * weight (gate X R _) e

end Cert.KernelValue
-- ==== Proof.Value.Sorting.lean ====
/-
# What the reference's sort and gather pick

The reference sorts each row's negated gates with their positions and keeps the first two positions: the expert with
the greatest gate and the expert with the second. It then gathers these two gates.
-/
module

public import proofs.«01_k».proof.Proof.Gen.ReferenceIdeal
public import proofs.«01_k».proof.Proof.Gen.ReferenceIdeal.Read
public import proofs.«01_k».proof.Proof.Value.Choice
public import Idealize.ShloMosaic.Lib.Pointwise
public import Idealize.ShloMosaic.Lib.SortFacts

@[expose] public section

noncomputable section

namespace Cert.ReferenceValue

open Cert.ReferenceIdeal Cert.ReferenceIdeal.Gen Cert.ReferenceIdeal.Read Cert.Choice
open Idealize.ShloMosaic

/-! ## Sorting eight gates -/

/-- The positions of eight gates from the greatest down. -/
def order (g : Fin 8 → EReal) : Fin 8 → Fin 8 := sortedFrom fun k k' => decide (-g k < -g k')

theorem order_le (g : Fin 8 → EReal) (i j : Fin 8) (h : i < j) : g (order g j) ≤ g (order g i) := by
  have := sortedFrom_noInversion (fun k k' => decide (-g k < -g k')) (fun k k' => decide (-g k < -g k'))
    (fun a b h => by simp only [decide_eq_true_eq, decide_eq_false_iff_not, EReal.neg_lt_neg_iff] at h ⊢; exact h.not_gt)
    (fun _ _ h => h)
    (fun a b c h h' => by
      simp only [decide_eq_false_iff_not, EReal.neg_lt_neg_iff, not_lt] at h h' ⊢; exact le_trans h h') i j h
  have h' := of_decide_eq_false this
  rw [EReal.neg_lt_neg_iff, not_lt] at h'
  exact h'

section
variable {g : Fin 8 → EReal} {p q : Fin 8} (T : Top2 g p q)
include T

theorem order_zero : order g 0 = p := by
  obtain ⟨k, hk⟩ : ∃ k, order g k = p := sortedFrom_surjective _ p
  by_contra h
  have hk0 : 0 < k := Nat.pos_of_ne_zero fun h0 => h (by rw [← hk]; exact congrArg _ (Fin.ext h0.symm))
  have := order_le g 0 k hk0
  rw [hk] at this
  exact absurd this (not_le.2 (T.fst _ h))

theorem order_one : order g 1 = q := by
  obtain ⟨k, hk⟩ : ∃ k, order g k = q := sortedFrom_surjective _ q
  have h0 : order g 1 ≠ p := fun h => by
    have : (1 : Fin 8) = 0 := sortedFrom_injective _ (show order g 1 = order g 0 by rw [h, order_zero T])
    exact absurd this (by decide)
  have hk0 : k ≠ 0 := fun h => T.ne (by rw [← hk, h, order_zero T])
  by_contra h
  have hk1 : k ≠ 1 := fun h' => h (by rw [← hk, h'])
  have hlt : (1 : Fin 8) < k := by
    have : ∀ k : Fin 8, k ≠ 0 → k ≠ 1 → 1 < k := by decide
    exact this k hk0 hk1
  have := order_le g 1 k hlt
  rw [hk] at this
  exact absurd this (not_le.2 (T.snd _ h0 h))

end

/-! ## The reference's positions -/

variable (X : FVec Ideal S512x512 .f32) (R : FVec Ideal S512x8 .f32)

/-- Row `t`'s gates, of the reference's arguments. -/
abbrev gates (t : Fin 512) : Fin 8 → EReal := gate (fun t k => X (ix2 t k)) (fun k e => R (ix2 k e)) t

theorem v0_apply (t : Fin 512) (e : Fin 8) : val_main_v0 (F := Ideal) X R (ix2 t e) = gates X R t e := by
  pointwise [val_main_v0, gates, gate]

/-- The sort's comparison is `<`: adding nothing to a number, and taking the zero of either sign for zero, changes nothing. -/
theorem comparator_apply (l r : Ideal .f32 × BitVec 32) :
    (comparator_f32_i32_d1 (F := Ideal) l r == 1#1) = decide (l.1 < r.1) := by
  have e : ∀ (x c : EReal), (if x ≠ x then c else if x = 0 then 0 else x) = x := fun x c => by
    rw [if_neg (fun h => h rfl)]
    split
    · next h => exact h.symm
    · rfl
  pointwise [comparator_f32_i32_d1]
  simp only [e]
  show (BitVec.ofBool (decide (l.1 < r.1)) == 1#1) = decide (l.1 < r.1)
  cases decide (l.1 < r.1) <;> rfl

theorem along_ix2 (t : Fin 512) (e k : Fin 8) : (ix2 t e : S512x8.Idx).along 1 k = ix2 t k := by
  funext a
  match a with
  | ⟨0, _⟩ => rfl
  | ⟨1, _⟩ => rfl

theorem v2_apply (t : Fin 512) (e : Fin 8) :
    val_main_v2 (F := Ideal) X R (ix2 t e) = BitVec.ofNat 32 (order (gates X R t) e).val := by
  pointwise [val_main_v2, Host.sort2]
  simp only [comparator_apply]
  have hv : ∀ k : Fin 8, val_main_v1 (F := Ideal) X R ((ix2 t e : S512x8.Idx).along 1 k) = - gates X R t k := fun k => by
    rw [along_ix2, ← v0_apply]; rfl
  have hs : (fun k k' : Fin 8 => decide (val_main_v1 (F := Ideal) X R ((ix2 t e : S512x8.Idx).along 1 k)
      < val_main_v1 (F := Ideal) X R ((ix2 t e : S512x8.Idx).along 1 k')))
      = fun k k' => decide (- gates X R t k < - gates X R t k') := by
    funext k k'
    rw [hv, hv]
  have ho := congrArg (fun b => sortedFrom b e) hs
  exact (congrArg (fun k : Fin 8 => val_main_call0_v0 (F := Ideal) ((ix2 t e : S512x8.Idx).along 1 k)) ho).trans
    (congrArg _ (along_ix2 t e _))

/-! ## The gather -/

/-- The gather's dimension numbers. -/
abbrev dims : GatherDims S512x8 S512x2x1 S512x2 := gather_S512x8_S512x2x1_S512x2_n_1_0_0_1_2_11

theorem siIdx_apply (t : Fin 512) (i : Fin 2) (c : Fin 1) : GatherDims.siIdx dims (ix2 t i) c = ix3 t i 0 := by
  funext b
  match b with
  | ⟨0, _⟩ => exact Fin.ext rfl
  | ⟨1, _⟩ => exact Fin.ext rfl
  | ⟨2, _⟩ => exact Subsingleton.elim (α := Fin 1) _ _

theorem operandIdx_apply (t : Fin 512) (i : Fin 2) (I : IVec S512x2x1 32) (e : Fin 8) (h : I (ix3 t i 0) = BitVec.ofNat 32 e.val) :
    GatherDims.operandIdx dims (ix2 t i) I = ix2 t e := by
  funext a
  match a with
  | ⟨0, _⟩ =>
    apply Fin.ext
    show GatherDims.start dims (ix2 t i) I 0 + GatherDims.batchCoord dims (ix2 t i) 0 + GatherDims.offCoord dims (ix2 t i) 0 = t.val
    have h0 : (0 : Fin 2) ∈ GatherDims.operandBatchingDims dims := List.mem_singleton.2 rfl
    rw [GatherDims.start_batching _ _ _ _ h0, GatherDims.offCoord_eq_zero _ _ _ (fun h => ((GatherDims.mem_sKept _ _).1 h).2 h0)]
    simp only [Nat.zero_add, Nat.add_zero, GatherDims.batchCoord, dif_pos h0]
    rfl
  | ⟨1, _⟩ =>
    apply Fin.ext
    show GatherDims.start dims (ix2 t i) I 1 + GatherDims.batchCoord dims (ix2 t i) 1 + GatherDims.offCoord dims (ix2 t i) 1 = e.val
    have h1 : (1 : Fin 2) ∈ GatherDims.collapsedSliceDims dims := List.mem_singleton.2 rfl
    have h1' : (1 : Fin 2) ∉ GatherDims.operandBatchingDims dims := fun h => absurd (List.mem_singleton.1 h) (by decide)
    have hm : (1 : Fin 2) ∈ GatherDims.startIndexMap dims := List.mem_singleton.2 rfl
    rw [GatherDims.batchCoord_eq_zero _ _ _ h1', GatherDims.offCoord_eq_zero _ _ _ (fun h => ((GatherDims.mem_sKept _ _).1 h).1 h1)]
    simp only [Nat.add_zero, GatherDims.start, dif_pos hm]
    have hs := congrArg I (siIdx_apply t i ⟨List.idxOf (1 : Fin 2) (GatherDims.startIndexMap dims), List.idxOf_lt_length_iff.2 hm⟩)
    have hb : ∀ e : Fin 8, min (BitVec.ofNat 32 e.val).toInt.toNat (8 - 1) = e.val := by decide
    refine Eq.trans ?_ (hb e)
    rw [← h, ← hs]
    rfl

/-! ## The two gates -/

theorem v3_apply (t : Fin 512) (i : Fin 2) :
    val_main_v3 (F := Ideal) X R (ix2 t i) = BitVec.ofNat 32 (order (gates X R t) ⟨i.val, by omega⟩).val := by
  rw [← v2_apply]
  pointwise [val_main_v3]

theorem call1_v5_apply (t : Fin 512) (i : Fin 2) :
    val_main_call1_v5 (F := Ideal) X R (ix3 t i 0) = BitVec.ofNat 32 (order (gates X R t) ⟨i.val, by omega⟩).val := by
  have h : ∀ e : Fin 8, Scalar.select (IntOp.cmpi .slt (BitVec.ofNat 32 e.val) 0#32) (IntOp.addi (BitVec.ofNat 32 e.val) 8#32)
      (BitVec.ofNat 32 e.val) = BitVec.ofNat 32 e.val := by decide
  pointwise [val_main_call1_v5, val_main_call1_v4, val_main_call1_v3, val_main_call1_v1, val_main_call1_v2, val_main_call1_v0,
    val_main_call1_c_0, val_main_call1_c, val_main_v3]
  rw [v2_apply]
  exact h _

theorem call1_v12_apply (t : Fin 512) (i : Fin 2) : val_main_call1_v12 (F := Ideal) X R (ix2 t i) = 1#1 := by
  have h : ∀ e : Fin 8, IntOp.andi (IntOp.cmpi .sge (BitVec.ofNat 32 e.val) 0#32) (IntOp.cmpi .sle (BitVec.ofNat 32 e.val) 7#32)
      = 1#1 := by decide
  pointwise [val_main_call1_v12, val_main_call1_v11, val_main_call1_v10, val_main_call1_v7, val_main_call1_v6, val_main_call1_v9,
    val_main_call1_v8, val_main_call1_c_2, val_main_call1_c_1, val_main_call1_c_3]
  rw [Finset.univ_unique, Finset.fold_singleton]
  show IntOp.andi (IntOp.andi (IntOp.cmpi .sge (val_main_call1_v5 (F := Ideal) X R (ix3 t i 0)) 0#32)
    (IntOp.cmpi .sle (val_main_call1_v5 (F := Ideal) X R (ix3 t i 0)) 7#32)) 1#1 = 1#1
  rw [call1_v5_apply, h]
  rfl

theorem v4_apply (t : Fin 512) (i : Fin 2) :
    val_main_v4 (F := Ideal) X R (ix2 t i) = gates X R t (order (gates X R t) ⟨i.val, by omega⟩) := by
  rw [val_main_v4_apply, call1_v12_apply, ← v0_apply]
  show val_main_v0 (F := Ideal) X R (GatherDims.operandIdx dims (ix2 t i) (val_main_call1_v5 (F := Ideal) X R)) = _
  rw [operandIdx_apply t i _ _ (call1_v5_apply X R t i)]

end Cert.ReferenceValue
-- ==== Proof.Value.Reference.lean ====
/-
# What the reference computes

The reference's result at a row and a column, for a row with a first and a second expert: the sum over the experts of
the expert's answer times the weight of the row's choice.
-/
module

public import proofs.«01_k».proof.Proof.Value.Sorting

@[expose] public section

noncomputable section

namespace Cert.ReferenceValue

open Cert.ReferenceIdeal Cert.ReferenceIdeal.Gen Cert.ReferenceIdeal.Read Cert.Choice
open Idealize.ShloMosaic

variable (X : FVec Ideal S512x512 .f32) (R : FVec Ideal S512x8 .f32) (A : FVec Ideal S8x512x1024 .f32) (B : FVec Ideal S8x1024x512 .f32)

/-! ## The weights -/

theorem v13_apply {t : Fin 512} {p q : Fin 8} (T : Top2 (gates X R t) p q) (i : Fin 2) :
    val_main_v13 (F := Ideal) X R (ix2 t i)
      = Ideal.div (Ideal.exp (gates X R t (order (gates X R t) ⟨i.val, by omega⟩) - gates X R t p)) (1 + odds (gates X R t)) := by
  have h0 : val_main_v4 (F := Ideal) X R (ix2 t 0) = gates X R t p :=
    (v4_apply X R t 0).trans (congrArg (gates X R t) (order_zero T))
  have h1 : val_main_v4 (F := Ideal) X R (ix2 t 1) = gates X R t q :=
    (v4_apply X R t 1).trans (congrArg (gates X R t) (order_one T))
  have hm : max (gates X R t p) (max (gates X R t q) ⊥) = gates X R t p := by
    rw [max_eq_left bot_le, max_eq_left (T.le q)]
  have hf : Finset.univ.fold max (Ideal.ofBits .f32 0xFF800000#32) (fun x : Fin 2 => val_main_v4 (F := Ideal) X R (ix2 t x))
      = gates X R t p := by
    rw [ofBits_negInf, ← hm, ← h0, ← h1]
    rfl
  pointwise [val_main_v13, val_main_v12, val_main_v11, val_main_v10, val_main_v9, val_main_v8, val_main_v7, val_main_v6, val_main_v5,
    val_main_cst, val_main_cst_0]
  rw [hf, Fin.sum_univ_two, h0, h1, T.exp_self, ← T.odds_eq, v4_apply]

theorem v13_zero {t : Fin 512} {p q : Fin 8} (T : Top2 (gates X R t) p q) :
    val_main_v13 (F := Ideal) X R (ix2 t 0) = weight (gates X R t) p := by
  have h := congrArg (fun e => Ideal.div (Ideal.exp (gates X R t e - gates X R t p)) (1 + odds (gates X R t))) (order_zero T)
  refine (v13_apply X R T 0).trans (h.trans ?_)
  show Ideal.div (Ideal.exp (gates X R t p - gates X R t p)) (1 + odds (gates X R t)) = _
  rw [T.exp_self, T.weight_eq, if_pos rfl]

theorem v13_one {t : Fin 512} {p q : Fin 8} (T : Top2 (gates X R t) p q) :
    val_main_v13 (F := Ideal) X R (ix2 t 1) = weight (gates X R t) q := by
  have h := congrArg (fun e => Ideal.div (Ideal.exp (gates X R t e - gates X R t p)) (1 + odds (gates X R t))) (order_one T)
  refine (v13_apply X R T 1).trans (h.trans ?_)
  show Ideal.div (Ideal.exp (gates X R t q - gates X R t p)) (1 + odds (gates X R t)) = _
  rw [← T.odds_eq, T.weight_eq, if_neg T.ne, if_pos rfl]

/-! ## The sixteen terms -/

/-- Expert `e`'s answer at row `t` and column `j`, of the reference's arguments. -/
abbrev answers (t j : Fin 512) (e : Fin 8) : EReal :=
  answer (fun t k => X (ix2 t k)) (fun e k f => A (ix3 e k f)) (fun e f j => B (ix3 e f j)) t j e

/-- The term of choice `i` and expert `e`: the expert's answer times the choice's weight if the choice is this expert, else nothing. -/
def term (t j : Fin 512) (i : Fin 2) (e : Fin 8) : EReal :=
  Scalar.select (IntOp.cmpi .eq (val_main_v3 (F := Ideal) X R (ix2 t i)) (BitVec.ofNat 32 e.val))
    (answers X A B t j e * val_main_v13 (F := Ideal) X R (ix2 t i)) 0

theorem zero_apply : id (constant (F := Ideal) S_ .f32 0#32) ix0 = (0 : EReal) := by
  show Ideal.ofBits .f32 0#32 = 0
  simp [Ideal.ofBits, Ideal.ieee]

theorem val_main_v29_apply (t j : Fin 512) : val_main_v29 (F := Ideal) X R A B (ix2 t j) = term X R A B t j 0 0 := by
  pointwise [val_main_v29, val_main_call2_v0, val_main_call2_v1, val_main_call2_v2, val_main_v28, val_main_v27, val_main_v26, val_main_v25, val_main_v24, val_main_v23, val_main_v22,
    val_main_v21, val_main_v20, val_main_v19, val_main_v18, val_main_v17, val_main_v16, val_main_v15, val_main_c, val_main_cst_2, val_main_cst_3, term, answer]
  exact congrArg _ zero_apply

theorem val_main_v45_apply (t j : Fin 512) : val_main_v45 (F := Ideal) X R A B (ix2 t j) = term X R A B t j 0 1 := by
  pointwise [val_main_v45, val_main_call3_v0, val_main_call3_v1, val_main_call3_v2, val_main_v44, val_main_v43, val_main_v42, val_main_v41, val_main_v40, val_main_v39, val_main_v38,
    val_main_v37, val_main_v36, val_main_v35, val_main_v34, val_main_v33, val_main_v32, val_main_v31, val_main_c_4, val_main_cst_5, val_main_cst_6, term, answer]
  exact congrArg _ zero_apply

theorem val_main_v61_apply (t j : Fin 512) : val_main_v61 (F := Ideal) X R A B (ix2 t j) = term X R A B t j 0 2 := by
  pointwise [val_main_v61, val_main_call4_v0, val_main_call4_v1, val_main_call4_v2, val_main_v60, val_main_v59, val_main_v58, val_main_v57, val_main_v56, val_main_v55, val_main_v54,
    val_main_v53, val_main_v52, val_main_v51, val_main_v50, val_main_v49, val_main_v48, val_main_v47, val_main_c_7, val_main_cst_8, val_main_cst_9, term, answer]
  exact congrArg _ zero_apply

theorem val_main_v77_apply (t j : Fin 512) : val_main_v77 (F := Ideal) X R A B (ix2 t j) = term X R A B t j 0 3 := by
  pointwise [val_main_v77, val_main_call5_v0, val_main_call5_v1, val_main_call5_v2, val_main_v76, val_main_v75, val_main_v74, val_main_v73, val_main_v72, val_main_v71, val_main_v70,
    val_main_v69, val_main_v68, val_main_v67, val_main_v66, val_main_v65, val_main_v64, val_main_v63, val_main_c_10, val_main_cst_11, val_main_cst_12, term, answer]
  exact congrArg _ zero_apply

theorem val_main_v93_apply (t j : Fin 512) : val_main_v93 (F := Ideal) X R A B (ix2 t j) = term X R A B t j 0 4 := by
  pointwise [val_main_v93, val_main_call6_v0, val_main_call6_v1, val_main_call6_v2, val_main_v92, val_main_v91, val_main_v90, val_main_v89, val_main_v88, val_main_v87, val_main_v86,
    val_main_v85, val_main_v84, val_main_v83, val_main_v82, val_main_v81, val_main_v80, val_main_v79, val_main_c_13, val_main_cst_14, val_main_cst_15, term, answer]
  exact congrArg _ zero_apply

theorem val_main_v109_apply (t j : Fin 512) : val_main_v109 (F := Ideal) X R A B (ix2 t j) = term X R A B t j 0 5 := by
  pointwise [val_main_v109, val_main_call7_v0, val_main_call7_v1, val_main_call7_v2, val_main_v108, val_main_v107, val_main_v106, val_main_v105, val_main_v104, val_main_v103, val_main_v102,
    val_main_v101, val_main_v100, val_main_v99, val_main_v98, val_main_v97, val_main_v96, val_main_v95, val_main_c_16, val_main_cst_17, val_main_cst_18, term, answer]
  exact congrArg _ zero_apply

theorem val_main_v125_apply (t j : Fin 512) : val_main_v125 (F := Ideal) X R A B (ix2 t j) = term X R A B t j 0 6 := by
  pointwise [val_main_v125, val_main_call8_v0, val_main_call8_v1, val_main_call8_v2, val_main_v124, val_main_v123, val_main_v122, val_main_v121, val_main_v120, val_main_v119, val_main_v118,
    val_main_v117, val_main_v116, val_main_v115, val_main_v114, val_main_v113, val_main_v112, val_main_v111, val_main_c_19, val_main_cst_20, val_main_cst_21, term, answer]
  exact congrArg _ zero_apply

theorem val_main_v141_apply (t j : Fin 512) : val_main_v141 (F := Ideal) X R A B (ix2 t j) = term X R A B t j 0 7 := by
  pointwise [val_main_v141, val_main_call9_v0, val_main_call9_v1, val_main_call9_v2, val_main_v140, val_main_v139, val_main_v138, val_main_v137, val_main_v136, val_main_v135, val_main_v134,
    val_main_v133, val_main_v132, val_main_v131, val_main_v130, val_main_v129, val_main_v128, val_main_v127, val_main_c_22, val_main_cst_23, val_main_cst_24, term, answer]
  exact congrArg _ zero_apply

theorem val_main_v157_apply (t j : Fin 512) : val_main_v157 (F := Ideal) X R A B (ix2 t j) = term X R A B t j 1 0 := by
  pointwise [val_main_v157, val_main_call10_v0, val_main_call10_v1, val_main_call10_v2, val_main_v156, val_main_v155, val_main_v154, val_main_v153, val_main_v152, val_main_v151, val_main_v150,
    val_main_v149, val_main_v148, val_main_v147, val_main_v146, val_main_v145, val_main_v144, val_main_v143, val_main_c_25, val_main_cst_26, val_main_cst_27, term, answer]
  exact congrArg _ zero_apply

theorem val_main_v173_apply (t j : Fin 512) : val_main_v173 (F := Ideal) X R A B (ix2 t j) = term X R A B t j 1 1 := by
  pointwise [val_main_v173, val_main_call11_v0, val_main_call11_v1, val_main_call11_v2, val_main_v172, val_main_v171, val_main_v170, val_main_v169, val_main_v168, val_main_v167, val_main_v166,
    val_main_v165, val_main_v164, val_main_v163, val_main_v162, val_main_v161, val_main_v160, val_main_v159, val_main_c_28, val_main_cst_29, val_main_cst_30, term, answer]
  exact congrArg _ zero_apply

theorem val_main_v189_apply (t j : Fin 512) : val_main_v189 (F := Ideal) X R A B (ix2 t j) = term X R A B t j 1 2 := by
  pointwise [val_main_v189, val_main_call12_v0, val_main_call12_v1, val_main_call12_v2, val_main_v188, val_main_v187, val_main_v186, val_main_v185, val_main_v184, val_main_v183, val_main_v182,
    val_main_v181, val_main_v180, val_main_v179, val_main_v178, val_main_v177, val_main_v176, val_main_v175, val_main_c_31, val_main_cst_32, val_main_cst_33, term, answer]
  exact congrArg _ zero_apply

theorem val_main_v205_apply (t j : Fin 512) : val_main_v205 (F := Ideal) X R A B (ix2 t j) = term X R A B t j 1 3 := by
  pointwise [val_main_v205, val_main_call13_v0, val_main_call13_v1, val_main_call13_v2, val_main_v204, val_main_v203, val_main_v202, val_main_v201, val_main_v200, val_main_v199, val_main_v198,
    val_main_v197, val_main_v196, val_main_v195, val_main_v194, val_main_v193, val_main_v192, val_main_v191, val_main_c_34, val_main_cst_35, val_main_cst_36, term, answer]
  exact congrArg _ zero_apply

theorem val_main_v221_apply (t j : Fin 512) : val_main_v221 (F := Ideal) X R A B (ix2 t j) = term X R A B t j 1 4 := by
  pointwise [val_main_v221, val_main_call14_v0, val_main_call14_v1, val_main_call14_v2, val_main_v220, val_main_v219, val_main_v218, val_main_v217, val_main_v216, val_main_v215, val_main_v214,
    val_main_v213, val_main_v212, val_main_v211, val_main_v210, val_main_v209, val_main_v208, val_main_v207, val_main_c_37, val_main_cst_38, val_main_cst_39, term, answer]
  exact congrArg _ zero_apply

theorem val_main_v237_apply (t j : Fin 512) : val_main_v237 (F := Ideal) X R A B (ix2 t j) = term X R A B t j 1 5 := by
  pointwise [val_main_v237, val_main_call15_v0, val_main_call15_v1, val_main_call15_v2, val_main_v236, val_main_v235, val_main_v234, val_main_v233, val_main_v232, val_main_v231, val_main_v230,
    val_main_v229, val_main_v228, val_main_v227, val_main_v226, val_main_v225, val_main_v224, val_main_v223, val_main_c_40, val_main_cst_41, val_main_cst_42, term, answer]
  exact congrArg _ zero_apply

theorem val_main_v253_apply (t j : Fin 512) : val_main_v253 (F := Ideal) X R A B (ix2 t j) = term X R A B t j 1 6 := by
  pointwise [val_main_v253, val_main_call16_v0, val_main_call16_v1, val_main_call16_v2, val_main_v252, val_main_v251, val_main_v250, val_main_v249, val_main_v248, val_main_v247, val_main_v246,
    val_main_v245, val_main_v244, val_main_v243, val_main_v242, val_main_v241, val_main_v240, val_main_v239, val_main_c_43, val_main_cst_44, val_main_cst_45, term, answer]
  exact congrArg _ zero_apply

theorem val_main_v269_apply (t j : Fin 512) : val_main_v269 (F := Ideal) X R A B (ix2 t j) = term X R A B t j 1 7 := by
  pointwise [val_main_v269, val_main_call17_v0, val_main_call17_v1, val_main_call17_v2, val_main_v268, val_main_v267, val_main_v266, val_main_v265, val_main_v264, val_main_v263, val_main_v262,
    val_main_v261, val_main_v260, val_main_v259, val_main_v258, val_main_v257, val_main_v256, val_main_v255, val_main_c_46, val_main_cst_47, val_main_cst_48, term, answer]
  exact congrArg _ zero_apply

/-! ## Their sum -/

theorem v14_apply (t j : Fin 512) : val_main_v14 (F := Ideal) (ix2 t j) = (0 : EReal) := by
  pointwise [val_main_v14, val_main_cst_1]

/-- The sixteen terms in the program's order: the first choice's, then the second's. -/
theorem sum_terms (t j : Fin 512) :
    val_main_v270 (F := Ideal) X R A B (ix2 t j)
      = (∑ e, term X R A B t j 0 e) + ∑ e, term X R A B t j 1 e := by
  have e : val_main_v270 (F := Ideal) X R A B (ix2 t j)
      = ((((((((((((((((val_main_v14 (F := Ideal) (ix2 t j) + val_main_v29 (F := Ideal) X R A B (ix2 t j))
         + val_main_v45 (F := Ideal) X R A B (ix2 t j))
         + val_main_v61 (F := Ideal) X R A B (ix2 t j))
         + val_main_v77 (F := Ideal) X R A B (ix2 t j))
         + val_main_v93 (F := Ideal) X R A B (ix2 t j))
         + val_main_v109 (F := Ideal) X R A B (ix2 t j))
         + val_main_v125 (F := Ideal) X R A B (ix2 t j))
         + val_main_v141 (F := Ideal) X R A B (ix2 t j))
         + val_main_v157 (F := Ideal) X R A B (ix2 t j))
         + val_main_v173 (F := Ideal) X R A B (ix2 t j))
         + val_main_v189 (F := Ideal) X R A B (ix2 t j))
         + val_main_v205 (F := Ideal) X R A B (ix2 t j))
         + val_main_v221 (F := Ideal) X R A B (ix2 t j))
         + val_main_v237 (F := Ideal) X R A B (ix2 t j))
         + val_main_v253 (F := Ideal) X R A B (ix2 t j))
         + val_main_v269 (F := Ideal) X R A B (ix2 t j)) := rfl
  rw [e, v14_apply, zero_add, val_main_v29_apply, val_main_v45_apply, val_main_v61_apply, val_main_v77_apply, val_main_v93_apply, val_main_v109_apply, val_main_v125_apply, val_main_v141_apply, val_main_v157_apply, val_main_v173_apply, val_main_v189_apply, val_main_v205_apply, val_main_v221_apply, val_main_v237_apply, val_main_v253_apply, val_main_v269_apply]
  rw [Fin.sum_univ_eight, Fin.sum_univ_eight]
  simp only [add_assoc]

/-- A choice's eight terms come to its expert's answer times its weight. -/
theorem sum_term (t j : Fin 512) (i : Fin 2) (p : Fin 8) (h : val_main_v3 (F := Ideal) X R (ix2 t i) = BitVec.ofNat 32 p.val) :
    ∑ e, term X R A B t j i e = answers X A B t j p * val_main_v13 (F := Ideal) X R (ix2 t i) := by
  have hs : ∀ p e : Fin 8, (IntOp.cmpi .eq (BitVec.ofNat 32 p.val) (BitVec.ofNat 32 e.val) = 1#1) ↔ e = p := by decide
  have ht : ∀ e, term X R A B t j i e = if e = p then answers X A B t j e * val_main_v13 (F := Ideal) X R (ix2 t i) else 0 := fun e => by
    unfold term
    rw [h]
    exact if_congr (hs p e) rfl rfl
  simp only [ht]
  rw [Finset.sum_ite_eq', if_pos (Finset.mem_univ p)]

/-- The reference's result in a row with a first and a second expert. -/
theorem v270_apply (t j : Fin 512) {p q : Fin 8} (T : Top2 (gates X R t) p q) :
    val_main_v270 (F := Ideal) X R A B (ix2 t j) = ∑ e, answers X A B t j e * weight (gates X R t) e := by
  have h0 : val_main_v3 (F := Ideal) X R (ix2 t 0) = BitVec.ofNat 32 p.val :=
    (v3_apply X R t 0).trans (congrArg (fun e : Fin 8 => BitVec.ofNat 32 e.val) (order_zero T))
  have h1 : val_main_v3 (F := Ideal) X R (ix2 t 1) = BitVec.ofNat 32 q.val :=
    (v3_apply X R t 1).trans (congrArg (fun e : Fin 8 => BitVec.ofNat 32 e.val) (order_one T))
  rw [sum_terms, sum_term X R A B t j 0 p h0, sum_term X R A B t j 1 q h1, v13_zero X R T, v13_one X R T]
  exact (T.sum_weight _).symm

end Cert.ReferenceValue
-- ==== Proof.Value.Mask.lean ====
/-
# What the mask says of a row

The mask reads each row's gates, counts for each expert the gates above it, and is one where exactly one expert has none
above it, exactly one has one above it, and the greatest gate is below `+∞`. Such a row has a first and a second expert.
-/
module

public import proofs.«01_k».proof.On_routed
public import proofs.«01_k».proof.Proof.Gen.On_routed
public import proofs.«01_k».proof.Proof.Value.Choice
public import Idealize.ShloMosaic.Lib.Pointwise
public import Idealize.ShloMosaic.Lib.WordCmp

@[expose] public section

noncomputable section

namespace Cert.Choice

open Cert.On_routed Cert.On_routed.Gen
open Idealize.ShloMosaic

variable (X : FVec Ideal S512x512 .f32) (R : FVec Ideal S512x8 .f32) (A : FVec Ideal S8x512x1024 .f32) (B : FVec Ideal S8x1024x512 .f32)

/-- A sum of indicator words counts. -/
theorem fold_count (b : Fin 8 → Prop) [DecidablePred b] :
    Finset.univ.fold IntOp.addi (0#32) (fun e => (BitVec.ofBool (decide (b e))).setWidth 32)
      = BitVec.ofNat 32 (Finset.univ.filter b).card := by
  have key : ∀ s : Finset (Fin 8), s.fold IntOp.addi (0#32) (fun e => (BitVec.ofBool (decide (b e))).setWidth 32)
      = BitVec.ofNat 32 (s.filter b).card := fun s => by
    induction s using Finset.induction_on with
    | empty => rfl
    | insert a s ha ih =>
      rw [Finset.fold_insert ha, ih, Finset.filter_insert]
      by_cases h : b a
      · rw [if_pos h, Finset.card_insert_of_notMem fun h' => ha (Finset.mem_filter.1 h').1, Nat.add_comm, BitVec.ofNat_add]
        simp [h, IntOp.addi]
      · rw [if_neg h]
        simp [h, IntOp.addi]
  exact key _

/-- Counts up to eight are told apart by their words. -/
theorem ofNat_eq_iff (n k : ℕ) (hn : n ≤ 8) (hk : k ≤ 8) : BitVec.ofNat 32 n = BitVec.ofNat 32 k ↔ n = k := by
  constructor
  · intro h
    have := congrArg BitVec.toNat h
    rw [BitVec.toNat_ofNat, BitVec.toNat_ofNat, Nat.mod_eq_of_lt (by omega), Nat.mod_eq_of_lt (by omega)] at this
    exact this
  · rintro rfl; rfl

theorem card_le (s : Finset (Fin 8)) : s.card ≤ 8 := (Finset.card_le_univ s).trans_eq (Fintype.card_fin 8)

/-- A row the mask is one in has a first and a second expert. -/
theorem top2_of_mask (t j : Fin 512) (h : Cert.On_routed.fn X R A B (ix2 t j) = 1#1) :
    ∃ p q, Top2 (gate (fun t k => X (ix2 t k)) (fun k e => R (ix2 k e)) t) p q := by
  revert h
  pointwise [Cert.On_routed.fn, Cert.On_routed.fn_part1]
  intro h
  have hg : ∀ e, ∑ k, X (ix2 t k) * R (ix2 k e) = gate (fun t k => X (ix2 t k)) (fun k e => R (ix2 k e)) t e := fun _ => rfl
  simp only [hg] at h
  generalize gate (fun t k => X (ix2 t k)) (fun k e => R (ix2 k e)) t = g at h ⊢
  have h0 := fun s : Finset (Fin 8) => ofNat_eq_iff s.card 0 (card_le s) (by decide)
  have h1 := fun s : Finset (Fin 8) => ofNat_eq_iff s.card 1 (card_le s) (by decide)
  simp only [fold_count, WordCmp.cmpi_eq_eq, and_one, ofBool_one, h0, h1, ofBits_negInf, ofBits_posInf] at h
  obtain ⟨⟨a, b⟩, c⟩ := h
  exact exists_top2 g a b fun e => lt_of_le_of_lt ((Finset.le_fold_max (g e)).2 (Or.inr ⟨e, Finset.mem_univ e, le_rfl⟩)) c

end Cert.Choice
-- ==== Proof.Value.Mesh.lean ====
/-
# The devices' blocks of whole arrays

Device `c` holds of each argument, and of the result, the block its middle mesh coordinate names. Where an element of
such a block is in the whole array; and from it the kernel's result against the reference's, at the rows the mask says.
-/
module

public import Idealize.ShloMosaic.Lib.Layout
public import proofs.«01_k».proof.Proof.Value.Payload
public import proofs.«01_k».proof.Proof.Value.Reference
public import proofs.«01_k».proof.Proof.Value.Mask

@[expose] public section

noncomputable section

namespace Cert.Mesh

open Idealize.ShloMosaic Cert.Choice Cert.KernelValue
open Cert.KernelIdealProof (Inp OUT yb)

variable {α : Type}

theorem lin_y (c : Fin 32) : Layout.meshLin [2, 4, 4] c.val [1] = (yb c 0).val := by revert c; decide +kernel

/-- Row `r` of device `c`'s block of rows. -/
theorem rows_apply (c : Fin 32) (v : (⟨2, ![512, 512]⟩ : Shape).Idx → α) (r : Fin 128) (k : Fin 512) :
    (Layout.blockN ⟨2, ![128, 512]⟩ ⟨2, ![512, 512]⟩ (Layout.meshBlock [2, 4, 4] ![[1], []] c) v : _ → α) (ix2 r k)
      = v (ix2 ⟨128 * (yb c 0).val + r.val, by omega⟩ k) := by
  rw [Layout.blockN_apply]
  congr 1
  funext a
  match a with
  | ⟨0, _⟩ =>
    apply Fin.ext
    show Layout.meshLin [2, 4, 4] c.val [1] * 128 + r.val = 128 * (yb c 0).val + r.val
    rw [lin_y, Nat.mul_comm]
  | ⟨1, _⟩ =>
    apply Fin.ext
    show 0 * 512 + k.val = k.val
    omega

/-- Column `i` of device `c`'s two columns. -/
theorem cols_apply (c : Fin 32) (v : (⟨2, ![512, 8]⟩ : Shape).Idx → α) (k : Fin 512) (i : Fin 2) :
    (Layout.blockN ⟨2, ![512, 2]⟩ ⟨2, ![512, 8]⟩ (Layout.meshBlock [2, 4, 4] ![[], [1]] c) v : _ → α) (ix2 k i)
      = v (ix2 k (own (yb c 0) i)) := by
  rw [Layout.blockN_apply]
  congr 1
  funext a
  match a with
  | ⟨0, _⟩ =>
    apply Fin.ext
    show 0 * 512 + k.val = k.val
    omega
  | ⟨1, _⟩ =>
    apply Fin.ext
    show Layout.meshLin [2, 4, 4] c.val [1] * 2 + i.val = 2 * (yb c 0).val + i.val
    rw [lin_y, Nat.mul_comm]

/-- Expert `i` of device `c`'s two experts, of either array of experts. -/
theorem experts_apply {n k : ℕ} (c : Fin 32) (v : (⟨3, ![8, n, k]⟩ : Shape).Idx → α)
    (h : Layout.TilesN ⟨3, ![2, n, k]⟩ ⟨3, ![8, n, k]⟩ fun b => Layout.cutSize [2, 4, 4] ((![[1], [], []] : Fin 3 → List ℕ) b))
    (i : Fin 2) (x : Fin n) (y : Fin k) :
    Layout.blockN ⟨3, ![2, n, k]⟩ ⟨3, ![8, n, k]⟩ (Layout.meshBlock [2, 4, 4] ![[1], [], []] c) v h (ix3 i x y)
      = v (ix3 (own (yb c 0) i) x y) := by
  rw [Layout.blockN_apply]
  congr 1
  funext a
  match a with
  | ⟨0, _⟩ =>
    apply Fin.ext
    show Layout.meshLin [2, 4, 4] c.val [1] * 2 + i.val = 2 * (yb c 0).val + i.val
    rw [lin_y, Nat.mul_comm]
  | ⟨1, _⟩ =>
    apply Fin.ext
    show 0 * n + x.val = x.val
    omega
  | ⟨2, _⟩ =>
    apply Fin.ext
    show 0 * k + y.val = y.val
    omega

variable (X : (⟨2, ![512, 512]⟩ : Shape).Idx → EReal) (R : (⟨2, ![512, 8]⟩ : Shape).Idx → EReal)
  (A : (⟨3, ![8, 512, 1024]⟩ : Shape).Idx → EReal) (B : (⟨3, ![8, 1024, 512]⟩ : Shape).Idx → EReal)

/-- The devices' inputs are their blocks of whole arrays. -/
theorem blocks (m : Inp Ideal)
    (hX : ∀ c, m.X c = Layout.blockN ⟨2, ![128, 512]⟩ ⟨2, ![512, 512]⟩ (Layout.meshBlock [2, 4, 4] ![[1], []] c) X)
    (hR : ∀ c, m.R c = Layout.blockN ⟨2, ![512, 2]⟩ ⟨2, ![512, 8]⟩ (Layout.meshBlock [2, 4, 4] ![[], [1]] c) R)
    (hA : ∀ c, m.W1 c = Layout.blockN ⟨3, ![2, 512, 1024]⟩ ⟨3, ![8, 512, 1024]⟩ (Layout.meshBlock [2, 4, 4] ![[1], [], []] c) A)
    (hB : ∀ c, m.W2 c = Layout.blockN ⟨3, ![2, 1024, 512]⟩ ⟨3, ![8, 1024, 512]⟩ (Layout.meshBlock [2, 4, 4] ![[1], [], []] c) B) :
    Blocks m (fun t k => X (ix2 t k)) (fun k e => R (ix2 k e)) (fun e k f => A (ix3 e k f)) (fun e f j => B (ix3 e f j)) where
  x c r k := (congrFun (hX c) _).trans (rows_apply c X r k)
  r c k i := (congrFun (hR c) _).trans (cols_apply c R k i)
  a c i k f := (congrFun (hA c) _).trans (experts_apply c A _ i k f)
  b c i f j := (congrFun (hB c) _).trans (experts_apply c B _ i f j)

/-- Where the mask says so, device `c`'s result is its block of the reference's. -/
theorem out_eq (m : Inp Ideal)
    (H : Blocks m (fun t k => X (ix2 t k)) (fun k e => R (ix2 k e)) (fun e k f => A (ix3 e k f)) (fun e f j => B (ix3 e f j)))
    (c : Fin 32) (i : (⟨2, ![128, 512]⟩ : Shape).Idx)
    (h : (Layout.blockN ⟨2, ![128, 512]⟩ ⟨2, ![512, 512]⟩ (Layout.meshBlock [2, 4, 4] ![[1], []] c)
      (Cert.On_routed.fn (F := Ideal) X R A B) : (⟨2, ![128, 512]⟩ : Shape).Idx → _) i = 1#1) :
    OUT m c i = (Layout.blockN ⟨2, ![128, 512]⟩ ⟨2, ![512, 512]⟩ (Layout.meshBlock [2, 4, 4] ![[1], []] c)
      (Cert.ReferenceIdeal.Read.val_main_v270 (F := Ideal) X R A B) : (⟨2, ![128, 512]⟩ : Shape).Idx → _) i := by
  obtain ⟨r, j, rfl⟩ : ∃ (r : Fin 128) (j : Fin 512), i = ix2 r j := ⟨i 0, i 1, by
    funext a
    match a with
    | ⟨0, _⟩ => rfl
    | ⟨1, _⟩ => rfl⟩
  rw [rows_apply] at h ⊢
  obtain ⟨p, q, T⟩ := top2_of_mask X R A B _ j h
  exact (H.OUT_apply c r j T).trans (Cert.ReferenceValue.v270_apply X R A B _ j T).symm

end Cert.Mesh
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_routed
public import proofs.«01_k».proof.Proof.Gen.ReferenceIdeal.Run
public import proofs.«01_k».proof.Proof.Gen.ReferenceIdeal.Read
public import proofs.«01_k».proof.Proof.Ideal.Launch
public import proofs.«01_k».proof.Proof.Machine.Launch
public import proofs.«01_k».proof.Proof.Value.Mesh
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The kernel runs, leaves its arguments as they were and every counter at zero: the run with values, the values
    dropped. -/
theorem frame_kernel : Cert.quiescent_Kernel := fun m g _ =>
  (θ_run _ _ _).mono (fun _ h => ⟨fun c => (h.1 c).2, h.2⟩) (Cert.KernelProof.run_values m g)

/-- The same of the kernel over the extended reals. -/
theorem frame_kernelIdeal : Cert.quiescent_KernelIdeal := fun m g _ =>
  (θ_run _ _ _).mono (fun _ h => ⟨fun c => (h.1 c).2, h.2⟩) (Cert.KernelIdealProof.run_values m g)

/-- The same of the reference, a program without semaphores. -/
theorem frame_referenceIdeal : Cert.quiescent_ReferenceIdeal := fun m g _ =>
  (θ_run _ _ _).mono (fun r h => ⟨fun c => (h c).2, sem_eq_zero_of_no_sems rfl r.2⟩)
    (Cert.ReferenceIdeal.Value.run m g)

/-- Where the mask says so, the kernel's devices end with their blocks of the reference's result. -/
theorem algebraic : Cert.algebraic_KernelIdeal_ReferenceIdeal_on_routed := fun m g m' g' _ hb => by
  have H := Cert.Mesh.blocks _ _ _ _ (Cert.KernelIdealProof.inp m)
    (fun c => (Cert.KernelIdealProof.inp_X m c).trans (hb c).1)
    (fun c => (Cert.KernelIdealProof.inp_R m c).trans (hb c).2.1)
    (fun c => (Cert.KernelIdealProof.inp_W1 m c).trans (hb c).2.2.1)
    (fun c => (Cert.KernelIdealProof.inp_W2 m c).trans (hb c).2.2.2)
  refine ⟨Cert.ReferenceIdeal.Read.val_main_v270 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run _ _ _).mono (fun r h c => ⟨fun i hi => ?_, (h.1 c).2⟩) (Cert.KernelIdealProof.run_values m g),
    (θ_run _ _ _).mono (fun r h => ⟨fun i _ => ?_, (h 0).2⟩) (Cert.ReferenceIdeal.Value.run m' g')⟩
  · exact (congrFun (h.1 c).1 i).trans (Cert.Mesh.out_eq _ _ _ _ _ H c i hi)
  · exact congrFun ((h 0).1.trans (Cert.ReferenceIdeal.Read.val_main_v270_eq _)) i

theorem claim : Cert.Claim := ⟨Cert.Kernel.Gen.facts, Cert.KernelIdeal.Gen.facts, Cert.ReferenceIdeal.Gen.facts,
  Cert.On_routed.Gen.facts, frame_kernel, frame_kernelIdeal, frame_referenceIdeal, trivial, algebraic⟩

end Cert.Proof

end
